-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v18) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S8x2048x4x4x128 : Shape := ⟨5, ![8, 2048, 4, 4, 128]⟩
abbrev S8x2048x4x128 : Shape := ⟨4, ![8, 2048, 4, 128]⟩
abbrev S8x2048x16 : Shape := ⟨3, ![8, 2048, 16]⟩
abbrev S_ : Shape := ⟨0, ![]⟩

class Facts : Prop where
  bcast_S_S8x2048x4x4x128 : S_.BroadcastsInDim S8x2048x4x4x128 (![] : Fin 0 → Fin S8x2048x4x4x128.rank)
  reducesTo_S8x2048x4x4x128_S_d0_1_2_3_4 : S8x2048x4x4x128.ReducesTo [0, 1, 2, 3, 4] S_
  h_S_ : 0 < S_.numel
  bcast_S_S8x2048x4x128 : S_.BroadcastsInDim S8x2048x4x128 (![] : Fin 0 → Fin S8x2048x4x128.rank)
  reducesTo_S8x2048x4x128_S_d0_1_2_3 : S8x2048x4x128.ReducesTo [0, 1, 2, 3] S_
  bcast_S_S8x2048x16 : S_.BroadcastsInDim S8x2048x16 (![] : Fin 0 → Fin S8x2048x16.rank)
  reducesTo_S8x2048x16_S_d0_1_2 : S8x2048x16.ReducesTo [0, 1, 2] S_

variable [Facts]

def fn {F : FTy → Type} [FloatOps F] (main_arg0 : FVec F S8x2048x4x4x128 .f32) (main_arg1 : FVec F S8x2048x4x128 .f32) (main_arg2 : FVec F S8x2048x4x128 .f32) (main_arg3 : FVec F S8x2048x16 .f32) : IVec S_ 1 :=
  let main_v0 : FVec F S8x2048x4x4x128 .f32 := Host.absf main_arg0
  let main_cst : FVec F S_ .f32 := constant S_ .f32 0x7F800000#32
  let main_v1 : FVec F S8x2048x4x4x128 .f32 := broadcastInDim S8x2048x4x4x128 ![] bcast_S_S8x2048x4x4x128 main_cst
  let main_v2 : IVec S8x2048x4x4x128 1 := cmpf .olt main_v0 main_v1
  let main_c : IVec S_ 1 := constantI S_ 1 1#1
  let main_v3 : IVec S_ 1 := (fun x v => Host.reduce IntOp.andi x v reducesTo_S8x2048x4x4x128_S_d0_1_2_3_4 h_S_) main_v2 main_c
  let main_v4 : FVec F S8x2048x4x128 .f32 := Host.absf main_arg1
  let main_cst_0 : FVec F S_ .f32 := constant S_ .f32 0x7F800000#32
  let main_v5 : FVec F S8x2048x4x128 .f32 := broadcastInDim S8x2048x4x128 ![] bcast_S_S8x2048x4x128 main_cst_0
  let main_v6 : IVec S8x2048x4x128 1 := cmpf .olt main_v4 main_v5
  let main_c_1 : IVec S_ 1 := constantI S_ 1 1#1
  let main_v7 : IVec S_ 1 := (fun x v => Host.reduce IntOp.andi x v reducesTo_S8x2048x4x128_S_d0_1_2_3 h_S_) main_v6 main_c_1
  let main_v8 : IVec S_ 1 := andi main_v3 main_v7
  let main_v9 : FVec F S8x2048x16 .f32 := Host.absf main_arg3
  let main_cst_2 : FVec F S_ .f32 := constant S_ .f32 0x7F800000#32
  let main_v10 : FVec F S8x2048x16 .f32 := broadcastInDim S8x2048x16 ![] bcast_S_S8x2048x16 main_cst_2
  let main_v11 : IVec S8x2048x16 1 := cmpf .olt main_v9 main_v10
  let main_c_3 : IVec S_ 1 := constantI S_ 1 1#1
  let main_v12 : IVec S_ 1 := (fun x v => Host.reduce IntOp.andi x v reducesTo_S8x2048x16_S_d0_1_2 h_S_) main_v11 main_c_3
  let main_v13 : IVec S_ 1 := andi main_v8 main_v12
  main_v13
-- ==== Kernel.lean ====
abbrev S8x2048x4x4x128 : Shape := ⟨5, ![8, 2048, 4, 4, 128]⟩
abbrev S8x2048x4x128 : Shape := ⟨4, ![8, 2048, 4, 128]⟩
abbrev S8x2048x16 : Shape := ⟨3, ![8, 2048, 16]⟩
abbrev S8x128 : Shape := ⟨2, ![8, 128]⟩
abbrev S16384x16x128 : Shape := ⟨3, ![16384, 16, 128]⟩
abbrev S16x16384x128 : Shape := ⟨3, ![16, 16384, 128]⟩
abbrev S8x2048x8x128 : Shape := ⟨4, ![8, 2048, 8, 128]⟩
abbrev S16384x8x128 : Shape := ⟨3, ![16384, 8, 128]⟩
abbrev S8x16384x128 : Shape := ⟨3, ![8, 16384, 128]⟩
abbrev S16384x16 : Shape := ⟨2, ![16384, 16]⟩
abbrev S16384x16x1 : Shape := ⟨3, ![16384, 16, 1]⟩
abbrev S16384x16x3 : Shape := ⟨3, ![16384, 16, 3]⟩
abbrev S8x2048x4x12 : Shape := ⟨4, ![8, 2048, 4, 12]⟩
abbrev S8x4x2048x12 : Shape := ⟨4, ![8, 4, 2048, 12]⟩
abbrev S_ : Shape := ⟨0, ![]⟩
abbrev S8x4x2048x128 : Shape := ⟨4, ![8, 4, 2048, 128]⟩
abbrev S16384x2048 : Shape := ⟨2, ![16384, 2048]⟩
abbrev S4x256x128 : Shape := ⟨3, ![4, 256, 128]⟩
abbrev S1x2048x128 : Shape := ⟨3, ![1, 2048, 128]⟩
abbrev S1x1x2048x128 : Shape := ⟨4, ![1, 1, 2048, 128]⟩
abbrev S256x512 : Shape := ⟨2, ![256, 512]⟩
abbrev S1024x128 : Shape := ⟨2, ![1024, 128]⟩
abbrev S1024x256 : Shape := ⟨2, ![1024, 256]⟩
abbrev S1x128 : Shape := ⟨2, ![1, 128]⟩
abbrev S256x128 : Shape := ⟨2, ![256, 128]⟩
abbrev S1x256x128 : Shape := ⟨3, ![1, 256, 128]⟩
abbrev S1x1x256x128 : Shape := ⟨4, ![1, 1, 256, 128]⟩
abbrev S256x256 : Shape := ⟨2, ![256, 256]⟩
abbrev S1024 : Shape := ⟨1, ![1024]⟩
abbrev S1024x1 : Shape := ⟨2, ![1024, 1]⟩

abbrev nBuf : Space → Nat
  | .hbm => 33
  | .vmem => 13
  | .smem => 0
  | _ => 0

abbrev bufTy : (tb : Table) → Fin (tcTables nBuf tb) → BufTy
  | .hbm, ⟨0, _⟩ => ⟨S8x2048x4x4x128, .f32⟩
  | .hbm, ⟨1, _⟩ => ⟨S8x2048x4x128, .f32⟩
  | .hbm, ⟨2, _⟩ => ⟨S8x2048x4x128, .f32⟩
  | .hbm, ⟨3, _⟩ => ⟨S8x2048x16, .f32⟩
  | .hbm, ⟨4, _⟩ => ⟨S8x128, .f32⟩
  | .hbm, ⟨5, _⟩ => ⟨S16384x16x128, .f32⟩
  | .hbm, ⟨6, _⟩ => ⟨S16x16384x128, .f32⟩
  | .hbm, ⟨7, _⟩ => ⟨S16x16384x128, .bf16⟩
  | .hbm, ⟨8, _⟩ => ⟨S8x2048x8x128, .f32⟩
  | .hbm, ⟨9, _⟩ => ⟨S16384x8x128, .f32⟩
  | .hbm, ⟨10, _⟩ => ⟨S8x16384x128, .f32⟩
  | .hbm, ⟨11, _⟩ => ⟨S8x16384x128, .bf16⟩
  | .hbm, ⟨12, _⟩ => ⟨S16384x16, .f32⟩
  | .hbm, ⟨13, _⟩ => ⟨S16384x16, .bf16⟩
  | .hbm, ⟨14, _⟩ => ⟨S16384x16, .f32⟩
  | .hbm, ⟨15, _⟩ => ⟨S16384x16, .f32⟩
  | .hbm, ⟨16, _⟩ => ⟨S16384x16, .bf16⟩
  | .hbm, ⟨17, _⟩ => ⟨S16384x16, .f32⟩
  | .hbm, ⟨18, _⟩ => ⟨S16384x16, .f32⟩
  | .hbm, ⟨19, _⟩ => ⟨S16384x16, .f32⟩
  | .hbm, ⟨20, _⟩ => ⟨S16384x16, .bf16⟩
  | .hbm, ⟨21, _⟩ => ⟨S16384x16, .bf16⟩
  | .hbm, ⟨22, _⟩ => ⟨S16384x16, .bf16⟩
  | .hbm, ⟨23, _⟩ => ⟨S16384x16x1, .bf16⟩
  | .hbm, ⟨24, _⟩ => ⟨S16384x16x1, .bf16⟩
  | .hbm, ⟨25, _⟩ => ⟨S16384x16x1, .bf16⟩
  | .hbm, ⟨26, _⟩ => ⟨S16384x16x3, .bf16⟩
  | .hbm, ⟨27, _⟩ => ⟨S8x2048x4x12, .bf16⟩
  | .hbm, ⟨28, _⟩ => ⟨S8x4x2048x12, .bf16⟩
  | .hbm, ⟨29, _⟩ => ⟨S_, .i32⟩
  | .hbm, ⟨30, _⟩ => ⟨S_, .bf16⟩
  | .hbm, ⟨31, _⟩ => ⟨S8x4x2048x128, .bf16⟩
  | .hbm, ⟨32, _⟩ => ⟨S16384x2048, .bf16⟩
  | .local _ .vmem, ⟨0, _⟩ => ⟨S4x256x128, .bf16⟩
  | .local _ .vmem, ⟨1, _⟩ => ⟨S4x256x128, .bf16⟩
  | .local _ .vmem, ⟨2, _⟩ => ⟨S8x128, .f32⟩
  | .local _ .vmem, ⟨3, _⟩ => ⟨S1x2048x128, .bf16⟩
  | .local _ .vmem, ⟨4, _⟩ => ⟨S1x2048x128, .bf16⟩
  | .local _ .vmem, ⟨5, _⟩ => ⟨S1x1x2048x128, .bf16⟩
  | .local _ .vmem, ⟨6, _⟩ => ⟨S1x1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S256x512, .bf16⟩
  | .local _ .vmem, ⟨10, _⟩ => ⟨S256x512, .bf16⟩
  | .local _ .vmem, ⟨11, _⟩ => ⟨S1024x128, .f32⟩
  | .local _ .vmem, ⟨12, _⟩ => ⟨S1024x256, .f32⟩
  | _, _ => ⟨S8x2048x4x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_call0_v0 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 8], ![false, false, false]⟩

@[reducible] def k0_t1_loop (i : grid0.Coords) : Scf.Loop 32 :=
  let c0_i32_9 : BitVec 32 := 0#32
  let arg2 : BitVec 32 := BitVec.ofNat 32 (i 2).val
  let v27 : BitVec 32 := Scalar.subi arg2 c0_i32_9
  let c1_i32 : BitVec 32 := 1#32
  let v29 : BitVec 32 := Scalar.divsi v27 c1_i32
  let v30 : BitVec 32 := Scalar.muli v29 c1_i32
  let v31 : BitVec 32 := Scalar.addi c0_i32_9 v30
  let c1_i32_10 : BitVec 32 := 1#32
  ⟨c0_i32_9, v31, c1_i32_10⟩
def k0_mult1 (i : grid0.Coords) (k0_t1 : Fin (k0_t1_loop i).trips) : BitVec 32 :=
  let c0_i32_9 : BitVec 32 := 0#32
  let c1_i32_10 : BitVec 32 := 1#32
  let arg11 : BitVec 32 := Scf.iv c0_i32_9 c1_i32_10 k0_t1
  let c256_i32_42 : BitVec 32 := 256#32
  let v101 : BitVec 32 := Scalar.muli arg11 c256_i32_42
  v101
def k0_off1 (i : grid0.Coords) (k0_t1 : Fin (k0_t1_loop i).trips) : Fin 3 → Nat :=
  let c0_43 : Index := 0#32
  let c0_i32_9 : BitVec 32 := 0#32
  let c1_i32_10 : BitVec 32 := 1#32
  let arg11 : BitVec 32 := Scf.iv c0_i32_9 c1_i32_10 k0_t1
  let c256_i32_42 : BitVec 32 := 256#32
  let v101 : BitVec 32 := Scalar.muli arg11 c256_i32_42
  let v102 : BitVec 32 := v101
  let v103 : Index := Scalar.indexCast v102
  let c0_44 : Index := 0#32
  ![0, v103.toNat, 0]
def k0_off2 (i : grid0.Coords) (k0_t1 : Fin (k0_t1_loop i).trips) : Fin 4 → Nat :=
  let c0_45 : Index := 0#32
  let c0_46 : Index := 0#32
  let c0_i32_9 : BitVec 32 := 0#32
  let c1_i32_10 : BitVec 32 := 1#32
  let arg11 : BitVec 32 := Scf.iv c0_i32_9 c1_i32_10 k0_t1
  let c256_i32_42 : BitVec 32 := 256#32
  let v101 : BitVec 32 := Scalar.muli arg11 c256_i32_42
  let v102 : BitVec 32 := v101
  let v106 : Index := Scalar.indexCast v102
  let c0_47 : Index := 0#32
  ![0, 0, v106.toNat, 0]
@[reducible] def k0_t2_loop (i : grid0.Coords) : Scf.Loop 32 :=
  let c0_i32_9 : BitVec 32 := 0#32
  let arg2 : BitVec 32 := BitVec.ofNat 32 (i 2).val
  let v27 : BitVec 32 := Scalar.subi arg2 c0_i32_9
  let c1_i32 : BitVec 32 := 1#32
  let v29 : BitVec 32 := Scalar.divsi v27 c1_i32
  let v30 : BitVec 32 := Scalar.muli v29 c1_i32
  let v31 : BitVec 32 := Scalar.addi c0_i32_9 v30
  let v28 : BitVec 32 := Scalar.addi c0_i32_9 v27
  let c1_i32_11 : BitVec 32 := 1#32
  ⟨v31, v28, c1_i32_11⟩
def k0_mult2 (i : grid0.Coords) (k0_t2 : Fin (k0_t2_loop i).trips) : BitVec 32 :=
  let c0_i32_9 : BitVec 32 := 0#32
  let arg2 : BitVec 32 := BitVec.ofNat 32 (i 2).val
  let v27 : BitVec 32 := Scalar.subi arg2 c0_i32_9
  let c1_i32 : BitVec 32 := 1#32
  let v29 : BitVec 32 := Scalar.divsi v27 c1_i32
  let v30 : BitVec 32 := Scalar.muli v29 c1_i32
  let v31 : BitVec 32 := Scalar.addi c0_i32_9 v30
  let c1_i32_11 : BitVec 32 := 1#32
  let arg11 : BitVec 32 := Scf.iv v31 c1_i32_11 k0_t2
  let c256_i32_42 : BitVec 32 := 256#32
  let v101 : BitVec 32 := Scalar.muli arg11 c256_i32_42
  v101
def k0_off3 (i : grid0.Coords) (k0_t2 : Fin (k0_t2_loop i).trips) : Fin 3 → Nat :=
  let c0_43 : Index := 0#32
  let c0_i32_9 : BitVec 32 := 0#32
  let arg2 : BitVec 32 := BitVec.ofNat 32 (i 2).val
  let v27 : BitVec 32 := Scalar.subi arg2 c0_i32_9
  let c1_i32 : BitVec 32 := 1#32
  let v29 : BitVec 32 := Scalar.divsi v27 c1_i32
  let v30 : BitVec 32 := Scalar.muli v29 c1_i32
  let v31 : BitVec 32 := Scalar.addi c0_i32_9 v30
  let c1_i32_11 : BitVec 32 := 1#32
  let arg11 : BitVec 32 := Scf.iv v31 c1_i32_11 k0_t2
  let c256_i32_42 : BitVec 32 := 256#32
  let v101 : BitVec 32 := Scalar.muli arg11 c256_i32_42
  let v102 : BitVec 32 := v101
  let v103 : Index := Scalar.indexCast v102
  let c0_44 : Index := 0#32
  ![0, v103.toNat, 0]
def k0_off4 (i : grid0.Coords) (k0_t2 : Fin (k0_t2_loop i).trips) : Fin 4 → Nat :=
  let c0_45 : Index := 0#32
  let c0_46 : Index := 0#32
  let c0_i32_9 : BitVec 32 := 0#32
  let arg2 : BitVec 32 := BitVec.ofNat 32 (i 2).val
  let v27 : BitVec 32 := Scalar.subi arg2 c0_i32_9
  let c1_i32 : BitVec 32 := 1#32
  let v29 : BitVec 32 := Scalar.divsi v27 c1_i32
  let v30 : BitVec 32 := Scalar.muli v29 c1_i32
  let v31 : BitVec 32 := Scalar.addi c0_i32_9 v30
  let c1_i32_11 : BitVec 32 := 1#32
  let arg11 : BitVec 32 := Scf.iv v31 c1_i32_11 k0_t2
  let c256_i32_42 : BitVec 32 := 256#32
  let v101 : BitVec 32 := Scalar.muli arg11 c256_i32_42
  let v102 : BitVec 32 := v101
  let v106 : Index := Scalar.indexCast v102
  let c0_47 : Index := 0#32
  ![0, 0, v106.toNat, 0]
def k0_mult3 (i : grid0.Coords) : BitVec 32 :=
  let arg2 : BitVec 32 := BitVec.ofNat 32 (i 2).val
  let c256_i32 : BitVec 32 := 256#32
  let v32 : BitVec 32 := Scalar.muli arg2 c256_i32
  v32
def k0_off5 (i : grid0.Coords) : Fin 3 → Nat :=
  let c0_12 : Index := 0#32
  let arg2 : BitVec 32 := BitVec.ofNat 32 (i 2).val
  let c256_i32 : BitVec 32 := 256#32
  let v32 : BitVec 32 := Scalar.muli arg2 c256_i32
  let v33 : BitVec 32 := v32
  let v34 : Index := Scalar.indexCast v33
  let c0_13 : Index := 0#32
  ![0, v34.toNat, 0]
def k0_off6 (i : grid0.Coords) : Fin 4 → Nat :=
  let c0_14 : Index := 0#32
  let c0_15 : Index := 0#32
  let arg2 : BitVec 32 := BitVec.ofNat 32 (i 2).val
  let c256_i32 : BitVec 32 := 256#32
  let v32 : BitVec 32 := Scalar.muli arg2 c256_i32
  let v33 : BitVec 32 := v32
  let v37 : Index := Scalar.indexCast v33
  let c0_16 : Index := 0#32
  ![0, 0, v37.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x2048x4x4x128 : Shape := ⟨5, ![8, 2048, 4, 4, 128]⟩
abbrev S8x2048x4x128 : Shape := ⟨4, ![8, 2048, 4, 128]⟩
abbrev S8x2048x16 : Shape := ⟨3, ![8, 2048, 16]⟩
abbrev S8x2048x4x4 : Shape := ⟨4, ![8, 2048, 4, 4]⟩
abbrev S8x4x4x2048 : Shape := ⟨4, ![8, 4, 4, 2048]⟩
abbrev S2048 : Shape := ⟨1, ![2048]⟩
abbrev S8x4x2048x2048x4 : Shape := ⟨5, ![8, 4, 2048, 2048, 4]⟩
abbrev S8x4x4x2048x2048 : Shape := ⟨5, ![8, 4, 4, 2048, 2048]⟩
abbrev S8x4x4x2048x1 : Shape := ⟨5, ![8, 4, 4, 2048, 1]⟩
abbrev S8x4x4x1x2048 : Shape := ⟨5, ![8, 4, 4, 1, 2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x4x128x4x2048 : Shape := ⟨5, ![8, 4, 128, 4, 2048]⟩
abbrev S16384x2048 : Shape := ⟨2, ![16384, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x4x4x128, .f32⟩
  | .hbm, ⟨1, _⟩ => ⟨S8x2048x4x128, .f32⟩
  | .hbm, ⟨2, _⟩ => ⟨S8x2048x4x128, .f32⟩
  | .hbm, ⟨3, _⟩ => ⟨S8x2048x16, .f32⟩
  | .hbm, ⟨4, _⟩ => ⟨S8x2048x4x4, .f32⟩
  | .hbm, ⟨5, _⟩ => ⟨S8x4x4x2048, .f32⟩
  | .hbm, ⟨6, _⟩ => ⟨S2048, .i32⟩
  | .hbm, ⟨7, _⟩ => ⟨S8x4x2048x2048x4, .f32⟩
  | .hbm, ⟨8, _⟩ => ⟨S8x4x4x2048x2048, .f32⟩
  | .hbm, ⟨9, _⟩ => ⟨S8x4x4x2048x1, .f32⟩
  | .hbm, ⟨10, _⟩ => ⟨S8x4x4x2048x2048, .f32⟩
  | .hbm, ⟨11, _⟩ => ⟨S8x4x4x2048x2048, .f32⟩
  | .hbm, ⟨12, _⟩ => ⟨S8x4x4x1x2048, .f32⟩
  | .hbm, ⟨13, _⟩ => ⟨S8x4x4x2048x2048, .f32⟩
  | .hbm, ⟨14, _⟩ => ⟨S8x4x4x2048x2048, .f32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x4x4x2048x2048, .i1⟩
  | .hbm, ⟨23, _⟩ => ⟨S8x4x4x2048x2048, .f32⟩
  | .hbm, ⟨24, _⟩ => ⟨S8x4x4x2048x2048, .f32⟩
  | .hbm, ⟨25, _⟩ => ⟨S_, .f32⟩
  | .hbm, ⟨26, _⟩ => ⟨S8x4x4x2048, .f32⟩
  | .hbm, ⟨27, _⟩ => ⟨S8x4x4x2048x1, .f32⟩
  | .hbm, ⟨28, _⟩ => ⟨S8x4x4x2048x1, .f32⟩
  | .hbm, ⟨29, _⟩ => ⟨S_, .f32⟩
  | .hbm, ⟨30, _⟩ => ⟨S8x4x4x2048x1, .f32⟩
  | .hbm, ⟨31, _⟩ => ⟨S8x4x4x2048x1, .i1⟩
  | .hbm, ⟨32, _⟩ => ⟨S_, .f32⟩
  | .hbm, ⟨33, _⟩ => ⟨S_, .f32⟩
  | .hbm, ⟨34, _⟩ => ⟨S8x4x4x2048x1, .f32⟩
  | .hbm, ⟨35, _⟩ => ⟨S8x4x4x2048x1, .f32⟩
  | .hbm, ⟨36, _⟩ => ⟨S8x4x4x2048x2048, .f32⟩
  | .hbm, ⟨37, _⟩ => ⟨S8x4x4x2048x2048, .f32⟩
  | .hbm, ⟨38, _⟩ => ⟨S8x4x4x2048x2048, .f32⟩
  | .hbm, ⟨39, _⟩ => ⟨S_, .f32⟩
  | .hbm, ⟨40, _⟩ => ⟨S8x4x4x2048, .f32⟩
  | .hbm, ⟨41, _⟩ => ⟨S8x4x4x2048x1, .f32⟩
  | .hbm, ⟨42, _⟩ => ⟨S_, .f32⟩
  | .hbm, ⟨43, _⟩ => ⟨S8x4x4x2048x1, .f32⟩
  | .hbm, ⟨44, _⟩ => ⟨S8x4x4x2048x1, .i1⟩
  | .hbm, ⟨45, _⟩ => ⟨S_, .f32⟩
  | .hbm, ⟨46, _⟩ => ⟨S_, .f32⟩
  | .hbm, ⟨47, _⟩ => ⟨S8x4x4x2048x1, .f32⟩
  | .hbm, ⟨48, _⟩ => ⟨S8x4x4x2048x1, .f32⟩
  | .hbm, ⟨49, _⟩ => ⟨S8x4x4x2048x2048, .f32⟩
  | .hbm, ⟨50, _⟩ => ⟨S8x4x4x2048x2048, .f32⟩
  | .hbm, ⟨51, _⟩ => ⟨S8x4x128x4x2048, .f32⟩
  | .hbm, ⟨52, _⟩ => ⟨S8x2048x4x4x128, .f32⟩
  | .hbm, ⟨53, _⟩ => ⟨S16384x2048, .f32⟩
  | .hbm, ⟨54, _⟩ => ⟨S16384x2048, .bf16⟩
  | _, _ => ⟨S8x2048x4x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_call2_v0 : Ref sig .tc := ⟨.hbm, 46, rfl⟩
abbrev main_call2_v1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]
-- ==== Kernel2.lean ====
abbrev S40960x2048 : Shape := ⟨2, ![40960, 2048]⟩
abbrev S32 : Shape := ⟨1, ![32]⟩
abbrev S2x32x2048x1024 : Shape := ⟨4, ![2, 32, 2048, 1024]⟩
abbrev S2x32x1024x2048 : Shape := ⟨4, ![2, 32, 1024, 2048]⟩
abbrev S1 : Shape := ⟨1, ![1]⟩
abbrev S160 : Shape := ⟨1, ![160]⟩
abbrev S_ : Shape := ⟨0, ![]⟩
abbrev S1x32 : Shape := ⟨2, ![1, 32]⟩
abbrev S160x1 : Shape := ⟨2, ![160, 1]⟩
abbrev S160x32 : Shape := ⟨2, ![160, 32]⟩
abbrev S256x2048 : Shape := ⟨2, ![256, 2048]⟩
abbrev S1x1x2048x1024 : Shape := ⟨4, ![1, 1, 2048, 1024]⟩
abbrev S1x1x1024x2048 : Shape := ⟨4, ![1, 1, 1024, 2048]⟩
abbrev S1x1x2048x512 : Shape := ⟨4, ![1, 1, 2048, 512]⟩
abbrev S2048x512 : Shape := ⟨2, ![2048, 512]⟩
abbrev S256x512 : Shape := ⟨2, ![256, 512]⟩
abbrev S1x1x512x2048 : Shape := ⟨4, ![1, 1, 512, 2048]⟩
abbrev S512x2048 : Shape := ⟨2, ![512, 2048]⟩

abbrev nBuf : Space → Nat
  | .hbm => 26
  | .vmem => 10
  | .smem => 2
  | _ => 0

abbrev bufTy : (tb : Table) → Fin (tcTables nBuf tb) → BufTy
  | .hbm, ⟨0, _⟩ => ⟨S40960x2048, .f32⟩
  | .hbm, ⟨1, _⟩ => ⟨S32, .i32⟩
  | .hbm, ⟨2, _⟩ => ⟨S2x32x2048x1024, .f32⟩
  | .hbm, ⟨3, _⟩ => ⟨S2x32x2048x1024, .f32⟩
  | .hbm, ⟨4, _⟩ => ⟨S2x32x1024x2048, .f32⟩
  | .hbm, ⟨5, _⟩ => ⟨S2x32x2048x1024, .bf16⟩
  | .hbm, ⟨6, _⟩ => ⟨S2x32x2048x1024, .bf16⟩
  | .hbm, ⟨7, _⟩ => ⟨S2x32x1024x2048, .bf16⟩
  | .hbm, ⟨8, _⟩ => ⟨S160, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S160, .i32⟩
  | .hbm, ⟨13, _⟩ => ⟨S160, .i32⟩
  | .hbm, ⟨14, _⟩ => ⟨S1x32, .i32⟩
  | .hbm, ⟨15, _⟩ => ⟨S160x1, .i32⟩
  | .hbm, ⟨16, _⟩ => ⟨S160x32, .i32⟩
  | .hbm, ⟨17, _⟩ => ⟨S160x32, .i32⟩
  | .hbm, ⟨18, _⟩ => ⟨S160x32, .i1⟩
  | .hbm, ⟨19, _⟩ => ⟨S160x32, .i32⟩
  | .hbm, ⟨20, _⟩ => ⟨S_, .i32⟩
  | .hbm, ⟨21, _⟩ => ⟨S160, .i32⟩
  | .hbm, ⟨22, _⟩ => ⟨S_, .i32⟩
  | .hbm, ⟨23, _⟩ => ⟨S160, .i32⟩
  | .hbm, ⟨24, _⟩ => ⟨S40960x2048, .bf16⟩
  | .hbm, ⟨25, _⟩ => ⟨S40960x2048, .f32⟩
  | .local _ .vmem, ⟨0, _⟩ => ⟨S256x2048, .bf16⟩
  | .local _ .vmem, ⟨1, _⟩ => ⟨S256x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x1024x2048, .bf16⟩
  | .local _ .vmem, ⟨7, _⟩ => ⟨S1x1x1024x2048, .bf16⟩
  | .local _ .vmem, ⟨8, _⟩ => ⟨S256x2048, .f32⟩
  | .local _ .vmem, ⟨9, _⟩ => ⟨S256x2048, .f32⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_c_1 : Ref sig .tc := ⟨.hbm, 22, rfl⟩
abbrev main_v16 : Ref sig .tc := ⟨.hbm, 23, rfl⟩
abbrev main_v18 : Ref sig .tc := ⟨.hbm, 24, rfl⟩
abbrev main_v19 : Ref sig .tc := ⟨.hbm, 25, rfl⟩
abbrev main_v17 : Ref sig .tc := ⟨.smem, 0, rfl⟩
abbrev main_v3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v17.idx, main_v3.idx], fun | 0 => main_v17.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S160.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S40960x2048 : Shape := ⟨2, ![40960, 2048]⟩
abbrev S32 : Shape := ⟨1, ![32]⟩
abbrev S2x32x2048x1024 : Shape := ⟨4, ![2, 32, 2048, 1024]⟩
abbrev S2x32x1024x2048 : Shape := ⟨4, ![2, 32, 1024, 2048]⟩
abbrev S160x256x2048 : Shape := ⟨3, ![160, 256, 2048]⟩
abbrev S160 : Shape := ⟨1, ![160]⟩
abbrev S1x32 : Shape := ⟨2, ![1, 32]⟩
abbrev S160x1 : Shape := ⟨2, ![160, 1]⟩
abbrev S160x32 : Shape := ⟨2, ![160, 32]⟩
abbrev S_ : Shape := ⟨0, ![]⟩
abbrev S1x32x2048x1024 : Shape := ⟨4, ![1, 32, 2048, 1024]⟩
abbrev S32x2048x1024 : Shape := ⟨3, ![32, 2048, 1024]⟩
abbrev S160x2048x1024 : Shape := ⟨3, ![160, 2048, 1024]⟩
abbrev S1x32x1024x2048 : Shape := ⟨4, ![1, 32, 1024, 2048]⟩
abbrev S32x1024x2048 : Shape := ⟨3, ![32, 1024, 2048]⟩
abbrev S160x1024x2048 : Shape := ⟨3, ![160, 1024, 2048]⟩
abbrev S160x256x1024 : Shape := ⟨3, ![160, 256, 1024]⟩
abbrev S1 : Shape := ⟨1, ![1]⟩
abbrev S160x1x1 : Shape := ⟨3, ![160, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S40960x2048, .f32⟩
  | .hbm, ⟨1, _⟩ => ⟨S32, .i32⟩
  | .hbm, ⟨2, _⟩ => ⟨S2x32x2048x1024, .f32⟩
  | .hbm, ⟨3, _⟩ => ⟨S2x32x2048x1024, .f32⟩
  | .hbm, ⟨4, _⟩ => ⟨S2x32x1024x2048, .f32⟩
  | .hbm, ⟨5, _⟩ => ⟨S160x256x2048, .f32⟩
  | .hbm, ⟨6, _⟩ => ⟨S160, .i32⟩
  | .hbm, ⟨7, _⟩ => ⟨S1x32, .i32⟩
  | .hbm, ⟨8, _⟩ => ⟨S160x1, .i32⟩
  | .hbm, ⟨9, _⟩ => ⟨S160x32, .i32⟩
  | .hbm, ⟨10, _⟩ => ⟨S160x32, .i32⟩
  | .hbm, ⟨11, _⟩ => ⟨S160x32, .i1⟩
  | .hbm, ⟨12, _⟩ => ⟨S160x32, .i32⟩
  | .hbm, ⟨13, _⟩ => ⟨S_, .i32⟩
  | .hbm, ⟨14, _⟩ => ⟨S160, .i32⟩
  | .hbm, ⟨15, _⟩ => ⟨S_, .i32⟩
  | .hbm, ⟨16, _⟩ => ⟨S160, .i32⟩
  | .hbm, ⟨17, _⟩ => ⟨S160, .i32⟩
  | .hbm, ⟨18, _⟩ => ⟨S1x32x2048x1024, .f32⟩
  | .hbm, ⟨19, _⟩ => ⟨S32x2048x1024, .f32⟩
  | .hbm, ⟨20, _⟩ => ⟨S160x1, .i32⟩
  | .hbm, ⟨21, _⟩ => ⟨S160x2048x1024, .f32⟩
  | .hbm, ⟨22, _⟩ => ⟨S1x32x2048x1024, .f32⟩
  | .hbm, ⟨23, _⟩ => ⟨S32x2048x1024, .f32⟩
  | .hbm, ⟨24, _⟩ => ⟨S160x1, .i32⟩
  | .hbm, ⟨25, _⟩ => ⟨S160x2048x1024, .f32⟩
  | .hbm, ⟨26, _⟩ => ⟨S1x32x1024x2048, .f32⟩
  | .hbm, ⟨27, _⟩ => ⟨S32x1024x2048, .f32⟩
  | .hbm, ⟨28, _⟩ => ⟨S160x1, .i32⟩
  | .hbm, ⟨29, _⟩ => ⟨S160x1024x2048, .f32⟩
  | .hbm, ⟨30, _⟩ => ⟨S160x256x1024, .f32⟩
  | .hbm, ⟨31, _⟩ => ⟨S160x256x1024, .f32⟩
  | .hbm, ⟨32, _⟩ => ⟨S160x256x1024, .f32⟩
  | .hbm, ⟨33, _⟩ => ⟨S_, .f32⟩
  | .hbm, ⟨34, _⟩ => ⟨S160x256x1024, .f32⟩
  | .hbm, ⟨35, _⟩ => ⟨S160x256x1024, .f32⟩
  | .hbm, ⟨36, _⟩ => ⟨S_, .f32⟩
  | .hbm, ⟨37, _⟩ => ⟨S160x256x1024, .f32⟩
  | .hbm, ⟨38, _⟩ => ⟨S160x256x1024, .f32⟩
  | .hbm, ⟨39, _⟩ => ⟨S160x256x1024, .f32⟩
  | .hbm, ⟨40, _⟩ => ⟨S160x256x1024, .f32⟩
  | .hbm, ⟨41, _⟩ => ⟨S160x256x1024, .f32⟩
  | .hbm, ⟨42, _⟩ => ⟨S160x256x2048, .f32⟩
  | .hbm, ⟨43, _⟩ => ⟨S1, .i32⟩
  | .hbm, ⟨44, _⟩ => ⟨S_, .i32⟩
  | .hbm, ⟨45, _⟩ => ⟨S160, .i32⟩
  | .hbm, ⟨46, _⟩ => ⟨S160, .i1⟩
  | .hbm, ⟨47, _⟩ => ⟨S160x1x1, .i1⟩
  | .hbm, ⟨48, _⟩ => ⟨S_, .f32⟩
  | .hbm, ⟨49, _⟩ => ⟨S_, .f32⟩
  | .hbm, ⟨50, _⟩ => ⟨S160x256x2048, .i1⟩
  | .hbm, ⟨51, _⟩ => ⟨S160x256x2048, .f32⟩
  | .hbm, ⟨52, _⟩ => ⟨S160x256x2048, .f32⟩
  | .hbm, ⟨53, _⟩ => ⟨S40960x2048, .f32⟩
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call1_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call2_v0 : Ref sig .tc := ⟨.hbm, 28, rfl⟩
abbrev main_v19 : Ref sig .tc := ⟨.hbm, 29, rfl⟩
abbrev main_v20 : Ref sig .tc := ⟨.hbm, 30, rfl⟩
abbrev main_call3_v0 : Ref sig .tc := ⟨.hbm, 31, rfl⟩
abbrev main_call3_v1 : Ref sig .tc := ⟨.hbm, 32, rfl⟩
abbrev main_call3_cst : Ref sig .tc := ⟨.hbm, 33, rfl⟩
abbrev main_call3_v2 : Ref sig .tc := ⟨.hbm, 34, rfl⟩
abbrev main_call3_v3 : Ref sig .tc := ⟨.hbm, 35, rfl⟩
abbrev main_call3_cst_0 : Ref sig .tc := ⟨.hbm, 36, rfl⟩
abbrev main_call3_v4 : Ref sig .tc := ⟨.hbm, 37, rfl⟩
abbrev main_call3_v5 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst : Ref sig .tc := ⟨.hbm, 48, rfl⟩
abbrev main_call4_v0 : Ref sig .tc := ⟨.hbm, 49, rfl⟩
abbrev main_call4_v1 : Ref sig .tc := ⟨.hbm, 50, rfl⟩
abbrev main_call4_v2 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]
-- ==== Kernel3.lean ====
abbrev S8x2048x2048 : Shape := ⟨3, ![8, 2048, 2048]⟩
abbrev S2048x2048 : Shape := ⟨2, ![2048, 2048]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048x2048, .f32⟩
  | .hbm, ⟨3, _⟩ => ⟨S16384x2048, .f32⟩
  | .hbm, ⟨4, _⟩ => ⟨S16384x2048, .bf16⟩
  | .hbm, ⟨5, _⟩ => ⟨S16384x2048, .f32⟩
  | .hbm, ⟨6, _⟩ => ⟨S2048x2048, .bf16⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8x2048x2048 : Shape := ⟨3, ![8, 2048, 2048]⟩
abbrev S2048x2048 : Shape := ⟨2, ![2048, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S2048x2048, .f32⟩
  | .hbm, ⟨3, _⟩ => ⟨S8x2048x2048, .f32⟩
  | .hbm, ⟨4, _⟩ => ⟨S8x2048x2048, .f32⟩
  | .hbm, ⟨5, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S8x2048x2048 : Shape := ⟨3, ![8, 2048, 2048]⟩
abbrev S2048 : Shape := ⟨1, ![2048]⟩
abbrev S2048x2048 : Shape := ⟨2, ![2048, 2048]⟩
abbrev S16384x2048 : Shape := ⟨2, ![16384, 2048]⟩
abbrev S1x2048 : Shape := ⟨2, ![1, 2048]⟩
abbrev S16x16384x128 : Shape := ⟨3, ![16, 16384, 128]⟩
abbrev S1024x2048 : Shape := ⟨2, ![1024, 2048]⟩
abbrev S2048x1024 : Shape := ⟨2, ![2048, 1024]⟩
abbrev S8x1024x128 : Shape := ⟨3, ![8, 1024, 128]⟩
abbrev S128x2048 : Shape := ⟨2, ![128, 2048]⟩
abbrev S128 : Shape := ⟨1, ![128]⟩
abbrev S128x1 : Shape := ⟨2, ![128, 1]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 7
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x2048, .f32⟩
  | .hbm, ⟨3, _⟩ => ⟨S16384x2048, .f32⟩
  | .hbm, ⟨4, _⟩ => ⟨S1x2048, .f32⟩
  | .hbm, ⟨5, _⟩ => ⟨S2048x2048, .bf16⟩
  | .hbm, ⟨6, _⟩ => ⟨S16x16384x128, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S8x1024x128, .bf16⟩
  | .local _ .vmem, ⟨6, _⟩ => ⟨S8x1024x128, .bf16⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_23 : BitVec 32 := 0#32
  let c8_i32 : BitVec 32 := 8#32
  let v51 : BitVec 32 := Scalar.addi c0_i32_23 c8_i32
  let c1_i32 : BitVec 32 := 1#32
  ⟨c0_i32_23, v51, c1_i32⟩
def k0_mult1 (k0_t1 : Fin k0_t1_loop.trips) : BitVec 32 :=
  let c0_i32_23 : BitVec 32 := 0#32
  let c1_i32 : BitVec 32 := 1#32
  let arg7 : BitVec 32 := Scf.iv c0_i32_23 c1_i32 k0_t1
  let c128_i32 : BitVec 32 := 128#32
  let v52 : BitVec 32 := Scalar.muli arg7 c128_i32
  v52
def k0_off1 (k0_t1 : Fin k0_t1_loop.trips) : Fin 2 → Nat :=
  let c0_i32_23 : BitVec 32 := 0#32
  let c1_i32 : BitVec 32 := 1#32
  let arg7 : BitVec 32 := Scf.iv c0_i32_23 c1_i32 k0_t1
  let c128_i32 : BitVec 32 := 128#32
  let v52 : BitVec 32 := Scalar.muli arg7 c128_i32
  let v53 : BitVec 32 := v52
  let v54 : Index := Scalar.indexCast v53
  let c0_25 : Index := 0#32
  ![v54.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x2048x2048 : Shape := ⟨3, ![8, 2048, 2048]⟩
abbrev S2048 : Shape := ⟨1, ![2048]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x16x128 : Shape := ⟨3, ![16384, 16, 128]⟩
abbrev S16x16384x128 : Shape := ⟨3, ![16, 16384, 128]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S2048x2048, .f32⟩
  | .hbm, ⟨3, _⟩ => ⟨S8x2048x2048, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S1x1x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S16384x16x128, .f32⟩
  | .hbm, ⟨21, _⟩ => ⟨S_, .f32⟩
  | .hbm, ⟨22, _⟩ => ⟨S16384x16x128, .f32⟩
  | .hbm, ⟨23, _⟩ => ⟨S16384x16x128, .f32⟩
  | .hbm, ⟨24, _⟩ => ⟨S16x16384x128, .f32⟩
  | .hbm, ⟨25, _⟩ => ⟨S16x16384x128, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Body.lean ====
module

public import proofs.«01_k».proof.Proof.Gen.KernelIdeal.Value
public import Idealize.ShloMosaic.Lib.Pipeline.ValueKit.Tiles
public import Idealize.ShloMosaic.Lib.Pipeline.Value
public import Idealize.ShloMosaic.Lib.Pointwise
public import Idealize.ShloMosaic.Lib.Tactic

@[expose] public section
set_option maxRecDepth 16384
noncomputable section

open Idealize.ShloMosaic Idealize.ShloMosaic.TcCoe Idealize.SL.Sem
open Idealize.ShloMosaic.Pipeline (Dat)
namespace Cert.KernelIdeal.Val
open Cert.KernelIdeal Cert.KernelIdeal.Gen
variable {F : FTy → Type} [FloatOps F] [Named F]

variable (c : Dev nD) (i : grid0.Coords) (arg3 : Memref sig .tc .vmem S4x256x128 .bf16) (harg3 : arg3.IsWhole) (arg4 : Memref sig .tc .vmem S8x128 .f32) (harg4 : arg4.IsWhole) (arg5 : Memref sig .tc .vmem S1x2048x128 .bf16) (harg5 : arg5.IsWhole) (arg6 : Memref sig .tc .vmem S1x1x2048x128 .bf16) (harg6 : arg6.IsWhole) (arg7 : Memref sig .tc .vmem S1x2048x128 .bf16) (harg7 : arg7.IsWhole) (arg8 : Memref sig .tc .vmem S256x512 .bf16) (harg8 : arg8.IsWhole) (arg9 : Memref sig .tc .vmem S1024x128 .f32) (harg9 : arg9.IsWhole) (arg10 : Memref sig .tc .vmem S1024x256 .f32) (harg10 : arg10.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-- Block `n` of 256 consecutive rows of an array of 2048 rows. -/
def rows (x : Vec F S1x2048x128 .bf16) (n : ℕ) : Vec F S1x256x128 .bf16 :=
  fun j => x (ix3 0 ⟨(256 * n + (j 1).val) % 2048, Nat.mod_lt _ (by decide)⟩ (j 2))

/-- Block `n` of 256 consecutive rows, of the array with one more unit axis. -/
def rows4 (x : Vec F S1x1x2048x128 .bf16) (n : ℕ) : Vec F S1x1x256x128 .bf16 :=
  fun j => x (ix4 0 0 ⟨(256 * n + (j 2).val) % 2048, Nat.mod_lt _ (by decide)⟩ (j 3))

/-- The running maximum and the accumulator after `n` blocks of keys. -/
def state (x0 : Vec F S4x256x128 .bf16) (x1 : Vec F S8x128 .f32) (x2 : Vec F S1x2048x128 .bf16)
    (x3 : Vec F S1x1x2048x128 .bf16) (x4 : Vec F S1x2048x128 .bf16) :
    ℕ → Vec F S1024x128 .f32 × Vec F S1024x256 .f32
  | 0 => (k0_pay17, k0_pay18)
  | n + 1 =>
    (k0_pay11 (k0_pay16 x0 x1) (rows x2 n) (rows4 x3 n) (state x0 x1 x2 x3 x4 n).1,
     k0_pay10 (k0_pay16 x0 x1) (rows x2 n) (rows4 x3 n) (rows x4 n)
       (state x0 x1 x2 x3 x4 n).1 (state x0 x1 x2 x3 x4 n).2)

/-- The accumulator after the block on the diagonal, block `n`. -/
def final (x0 : Vec F S4x256x128 .bf16) (x1 : Vec F S8x128 .f32) (x2 : Vec F S1x2048x128 .bf16)
    (x3 : Vec F S1x1x2048x128 .bf16) (x4 : Vec F S1x2048x128 .bf16) (n : ℕ) : Vec F S1024x256 .f32 :=
  k0_pay1 (k0_pay19 (rows x4 n))
    (k0_pay22 (k0_pay16 x0 x1) (rows x2 n) (rows4 x3 n) (state x0 x1 x2 x3 x4 n).1 (state x0 x1 x2 x3 x4 n).2)
    (k0_pay23 (k0_pay16 x0 x1) (rows x2 n) (rows4 x3 n) (state x0 x1 x2 x3 x4 n).1)
    (constant S1024x256 .f32 0x00000000#32)

/-- The first loop makes as many trips as the point's last coordinate says; -/
theorem trips1 : ∀ i : grid0.Coords, (k0_t1_loop i).trips = (i 2).val := by decide +kernel

/-- the second none. -/
theorem trips2 : ∀ i : grid0.Coords, (k0_t2_loop i).trips = 0 := by decide +kernel

theorem off1 : ∀ (i : grid0.Coords) (k : Fin (k0_t1_loop i).trips), k0_off1 i k = ![0, 256 * k.val, 0] := by
  intro i k
  have h8 : (i 2).val < 8 := (i 2).isLt
  have hk : k.val < (i 2).val := lt_of_lt_of_eq k.isLt (trips1 i)
  unfold k0_off1
  obtain ⟨k, hk'⟩ := k
  dsimp only at hk ⊢
  have : k < 8 := by omega
  clear hk hk'
  interval_cases k <;> rfl

theorem off2 : ∀ (i : grid0.Coords) (k : Fin (k0_t1_loop i).trips), k0_off2 i k = ![0, 0, 256 * k.val, 0] := by
  intro i k
  have h8 : (i 2).val < 8 := (i 2).isLt
  have hk : k.val < (i 2).val := lt_of_lt_of_eq k.isLt (trips1 i)
  unfold k0_off2
  obtain ⟨k, hk'⟩ := k
  dsimp only at hk ⊢
  have : k < 8 := by omega
  clear hk hk'
  interval_cases k <;> rfl

theorem off5 : ∀ (i : grid0.Coords) (a : Fin 3), k0_off5 i a = (![0, 256 * (i 2).val, 0] : Fin 3 → ℕ) a := by decide +kernel

theorem off6 : ∀ (i : grid0.Coords) (a : Fin 4), k0_off6 i a = (![0, 0, 256 * (i 2).val, 0] : Fin 4 → ℕ) a := by decide +kernel

theorem ld_rows (x : Vec F S1x2048x128 .bf16) (n : ℕ) (hn : n < 8) (off : Fin 3 → ℕ) (inb) (h : off = ![0, 256 * n, 0]) :
    View.ld x (Rect.unit (s := S1x2048x128) off S1x256x128.size inb) = rows x n := by
  subst h
  funext j
  unfold rows
  show x _ = x _
  refine congrArg x ?_
  have hj : (j 1).val < 256 := (j 1).isLt
  funext a
  match a with
  | ⟨0, _⟩ => exact Fin.ext (by have h : (j 0).val < 1 := (j 0).isLt
                                show 0 + 1 * (j 0).val = 0; omega)
  | ⟨1, _⟩ => exact Fin.ext (by show 256 * n + 1 * (j 1).val = (256 * n + (j 1).val) % 2048; omega)
  | ⟨2, _⟩ => exact Fin.ext (by show 0 + 1 * (j 2).val = (j 2).val; omega)

theorem ld_rows4 (x : Vec F S1x1x2048x128 .bf16) (n : ℕ) (hn : n < 8) (off : Fin 4 → ℕ) (inb) (h : off = ![0, 0, 256 * n, 0]) :
    View.ld x (Rect.unit (s := S1x1x2048x128) off S1x1x256x128.size inb) = rows4 x n := by
  subst h
  funext j
  unfold rows4
  show x _ = x _
  refine congrArg x ?_
  have hj : (j 2).val < 256 := (j 2).isLt
  funext a
  match a with
  | ⟨0, _⟩ => exact Fin.ext (by have h : (j 0).val < 1 := (j 0).isLt
                                show 0 + 1 * (j 0).val = 0; omega)
  | ⟨1, _⟩ => exact Fin.ext (by have h : (j 1).val < 1 := (j 1).isLt
                                show 0 + 1 * (j 1).val = 0; omega)
  | ⟨2, _⟩ => exact Fin.ext (by show 256 * n + 1 * (j 2).val = (256 * n + (j 2).val) % 2048; omega)
  | ⟨3, _⟩ => exact Fin.ext (by show 0 + 1 * (j 3).val = (j 3).val; omega)

/-- One trip of the running softmax at trip `k`. -/
theorem trip1 (v0 : Vec F S4x256x128 .bf16) (v3 : Vec F S8x128 .f32) (X5 : BufTy.Contents (Elt F) arg5.view.ty) (X6 : BufTy.Contents (Elt F) arg6.view.ty) (X7 : BufTy.Contents (Elt F) arg7.view.ty) (k : Fin (k0_t1_loop i).trips) (f9 : BufTy.Contents (Elt F) arg9.view.ty) (f10 : BufTy.Contents (Elt F) arg10.view.ty) :
   tripL_k0_t1 (F := F) Variants.none c none i arg3 harg3 arg4 harg4 arg5 harg5 arg6 harg6 arg7 harg7 arg8 harg8 arg9 harg9 arg10 harg10 v0 v3 X5 X6 X7 k f9 f10
    = ([⟨Rect.unit ![0, 0] S1024x128.size inb_S1024x128_S1024x128_0_0,
          k0_pay11 (k0_pay16 v0 v3) (View.readAt (Elt F) arg5.view (Rect.unit (s := S1x2048x128) (k0_off1 i k) S1x256x128.size (k0_off1_inb i k)).toLoadRect X5)
            (View.readAt (Elt F) arg6.view (Rect.unit (s := S1x1x2048x128) (k0_off2 i k) S1x1x256x128.size (k0_off2_inb i k)).toLoadRect X6)
            (View.readAt (Elt F) arg9.view (Rect.unit (s := S1024x128) ![0, 0] S1024x128.size inb_S1024x128_S1024x128_0_0).toLoadRect f9)⟩],
       [⟨Rect.unit ![0, 0] S1024x256.size inb_S1024x256_S1024x256_0_0,
          k0_pay10 (k0_pay16 v0 v3) (View.readAt (Elt F) arg5.view (Rect.unit (s := S1x2048x128) (k0_off1 i k) S1x256x128.size (k0_off1_inb i k)).toLoadRect X5)
            (View.readAt (Elt F) arg6.view (Rect.unit (s := S1x1x2048x128) (k0_off2 i k) S1x1x256x128.size (k0_off2_inb i k)).toLoadRect X6)
            (View.readAt (Elt F) arg7.view (Rect.unit (s := S1x2048x128) (k0_off1 i k) S1x256x128.size (k0_off1_inb i k)).toLoadRect X7)
            (View.readAt (Elt F) arg9.view (Rect.unit (s := S1024x128) ![0, 0] S1024x128.size inb_S1024x128_S1024x128_0_0).toLoadRect f9)
            (View.readAt (Elt F) arg10.view (Rect.unit (s := S1024x256) ![0, 0] S1024x256.size inb_S1024x256_S1024x256_0_0).toLoadRect f10)⟩]) := by
  unfold tripL_k0_t1 trip_k0_t1
  dsimp only
  sl_unfold_words
  rfl

/-- What a whole-array write leaves, whatever was there before. -/
theorem read9 (f : BufTy.Contents (Elt F) arg9.view.ty) (w : Vec F S1024x128 .f32) (L) :
    arg9.view.read (Elt F) (arg9.view.writes (Elt F) f (⟨(Rect.unit (s := S1024x128) ![0, 0] S1024x128.size inb_S1024x128_S1024x128_0_0), w⟩ :: L)) = w := by
  rw [View.read_writes_eq_canon _ _ _ (fun y => ⟨_, List.mem_cons_self, View.mem_set_unit_zero hz2 inb_S1024x128_S1024x128_0_0 y⟩),
    View.canon_cons_unit_zero (S := S1024x128) hz2]

theorem read10 (f : BufTy.Contents (Elt F) arg10.view.ty) (w : Vec F S1024x256 .f32) (L) :
    arg10.view.read (Elt F) (arg10.view.writes (Elt F) f (⟨(Rect.unit (s := S1024x256) ![0, 0] S1024x256.size inb_S1024x256_S1024x256_0_0), w⟩ :: L)) = w := by
  rw [View.read_writes_eq_canon _ _ _ (fun y => ⟨_, List.mem_cons_self, View.mem_set_unit_zero hz2 inb_S1024x256_S1024x256_0_0 y⟩),
    View.canon_cons_unit_zero (S := S1024x256) hz2]

set_option maxHeartbeats 2000000 in
/-- After `n` trips the two scratch arrays hold the running state. -/
theorem loop1 (x0 : Vec F S4x256x128 .bf16) (x1 : Vec F S8x128 .f32) (x2 : Vec F S1x2048x128 .bf16)
    (x3 : Vec F S1x1x2048x128 .bf16) (x4 : Vec F S1x2048x128 .bf16) (n : ℕ) (hn : n ≤ (k0_t1_loop i).trips) :
    arg9.view.read (Elt F) (arg9.view.writes (Elt F) (arg9.view.writes (Elt F) arg9.view.junk [⟨(Rect.unit (s := S1024x128) ![0, 0] S1024x128.size inb_S1024x128_S1024x128_0_0), k0_pay17⟩]) (pb_k0_t1 (F := F) Variants.none c none i arg3 harg3 arg4 harg4 arg5 harg5 arg6 harg6 arg7 harg7 arg8 harg8 arg9 harg9 arg10 harg10 x0 x1 (harg5.unread x2) (harg6.unread x3) (harg7.unread x4) (arg9.view.writes (Elt F) arg9.view.junk [⟨(Rect.unit (s := S1024x128) ![0, 0] S1024x128.size inb_S1024x128_S1024x128_0_0), k0_pay17⟩]) (arg10.view.writes (Elt F) arg10.view.junk [⟨(Rect.unit (s := S1024x256) ![0, 0] S1024x256.size inb_S1024x256_S1024x256_0_0), k0_pay18⟩]) n).1) = (state x0 x1 x2 x3 x4 n).1
    ∧ arg10.view.read (Elt F) (arg10.view.writes (Elt F) (arg10.view.writes (Elt F) arg10.view.junk [⟨(Rect.unit (s := S1024x256) ![0, 0] S1024x256.size inb_S1024x256_S1024x256_0_0), k0_pay18⟩]) (pb_k0_t1 (F := F) Variants.none c none i arg3 harg3 arg4 harg4 arg5 harg5 arg6 harg6 arg7 harg7 arg8 harg8 arg9 harg9 arg10 harg10 x0 x1 (harg5.unread x2) (harg6.unread x3) (harg7.unread x4) (arg9.view.writes (Elt F) arg9.view.junk [⟨(Rect.unit (s := S1024x128) ![0, 0] S1024x128.size inb_S1024x128_S1024x128_0_0), k0_pay17⟩]) (arg10.view.writes (Elt F) arg10.view.junk [⟨(Rect.unit (s := S1024x256) ![0, 0] S1024x256.size inb_S1024x256_S1024x256_0_0), k0_pay18⟩]) n).2) = (state x0 x1 x2 x3 x4 n).2 := by
  induction n with
  | zero => exact ⟨read9 _ _ _ _, read10 _ _ _ _⟩
  | succ n ih =>
    obtain ⟨h9, h10⟩ := ih (Nat.le_of_succ_le hn)
    have hn8 : n < 8 := by have h := trips1 i; have h8 : (i 2).val < 8 := (i 2).isLt; omega
    rw [show (n + 1) = (⟨n, hn⟩ : Fin (k0_t1_loop i).trips).val + 1 from rfl, pb_k0_t1_succ (F := F) Variants.none c none i arg3 harg3 arg4 harg4 arg5 harg5 arg6 harg6 arg7 harg7 arg8 harg8 arg9 harg9 arg10 harg10 x0 x1 (harg5.unread x2) (harg6.unread x3) (harg7.unread x4) (arg9.view.writes (Elt F) arg9.view.junk [⟨(Rect.unit (s := S1024x128) ![0, 0] S1024x128.size inb_S1024x128_S1024x128_0_0), k0_pay17⟩]) (arg10.view.writes (Elt F) arg10.view.junk [⟨(Rect.unit (s := S1024x256) ![0, 0] S1024x256.size inb_S1024x256_S1024x256_0_0), k0_pay18⟩]) ⟨n, hn⟩, trip1]
    simp only [List.cons_append, List.nil_append]
    rw [read9, read10]
    simp only [View.readAt_eq_ld, h9, h10, harg5.read_unread, harg6.read_unread, harg7.read_unread,
      View.ld_unit_zero (S := S1024x128) hz2, View.ld_unit_zero (S := S1024x256) hz2,
      ld_rows _ n hn8 _ _ (off1 i ⟨n, hn⟩), ld_rows4 _ n hn8 _ _ (off2 i ⟨n, hn⟩)]
    exact ⟨rfl, rfl⟩

/-- A load of the whole array after some writes reads what they leave. -/
theorem cov9 (L) : arg9.view.readCov (Val := Elt F) L (Rect.unit (s := S1024x128) ![0, 0] S1024x128.size inb_S1024x128_S1024x128_0_0).toLoadRect
    = arg9.view.read (Elt F) (arg9.view.writes (Elt F) arg9.view.junk L) := by
  show arg9.view.readAt (Elt F) (Rect.unit (s := S1024x128) ![0, 0] S1024x128.size inb_S1024x128_S1024x128_0_0).toLoadRect (arg9.view.writes (Elt F) arg9.view.junk L) = _
  rw [View.readAt_eq_ld, View.ld_unit_zero (S := S1024x128) hz2]

theorem cov10 (L) : arg10.view.readCov (Val := Elt F) L (Rect.unit (s := S1024x256) ![0, 0] S1024x256.size inb_S1024x256_S1024x256_0_0).toLoadRect
    = arg10.view.read (Elt F) (arg10.view.writes (Elt F) arg10.view.junk L) := by
  show arg10.view.readAt (Elt F) (Rect.unit (s := S1024x256) ![0, 0] S1024x256.size inb_S1024x256_S1024x256_0_0).toLoadRect (arg10.view.writes (Elt F) arg10.view.junk L) = _
  rw [View.readAt_eq_ld, View.ld_unit_zero (S := S1024x256) hz2]

set_option maxHeartbeats 2000000 in
/-- The block a point leaves: four slabs of 128 columns, one per query head of the group. -/
theorem out_eq (x0 : Vec F S4x256x128 .bf16) (x1 : Vec F S8x128 .f32) (x2 : Vec F S1x2048x128 .bf16)
    (x3 : Vec F S1x1x2048x128 .bf16) (x4 : Vec F S1x2048x128 .bf16) (r : Fin 256) (d : Fin 512) :
    out0_A_5 c i arg3 harg3 arg4 harg4 arg5 harg5 arg6 harg6 arg7 harg7 arg8 harg8 arg9 harg9 arg10 harg10 x0 x1 x2 x3 x4 (ix2 r d)
      = truncf .bf16 (k0_pay3 (final x0 x1 x2 x3 x4 (i 2).val)) bitsLt_bf16_f32
          (ix2 ⟨256 * (d.val / 128) + r.val, by omega⟩ ⟨d.val % 128, Nat.mod_lt _ (by decide)⟩) := by
  unfold out0_A_5
  rw [View.read_writes_eq_canon _ _ _ (cover0_A_5 c i arg3 harg3 arg4 harg4 arg5 harg5 arg6 harg6 arg7 harg7 arg8 harg8 arg9 harg9 arg10 harg10 x0 x1 x2 x3 x4)]
  unfold kernelRun0_A
  dsimp only
  sl_unfold_words
  have hn8 : (i 2).val < 8 := (i 2).isLt
  have hl := loop1 (F := F) c i arg3 harg3 arg4 harg4 arg5 harg5 arg6 harg6 arg7 harg7 arg8 harg8 arg9 harg9 arg10 harg10 x0 x1 x2 x3 x4 (i 2).val (trips1 i).ge
  rw [show Scf.trips (k0_t2_loop i).lb (k0_t2_loop i).ub (k0_t2_loop i).st = 0 from trips2 i,
    show Scf.trips (k0_t1_loop i).lb (k0_t1_loop i).ub (k0_t1_loop i).st = (i 2).val from trips1 i]
  have ef : k0_pay1 (k0_pay19 (View.ld x4 (Rect.unit (s := S1x2048x128) (k0_off5 i) S1x256x128.size (k0_off5_inb i))))
      (k0_pay22 (k0_pay16 x0 x1) (View.ld x2 (Rect.unit (s := S1x2048x128) (k0_off5 i) S1x256x128.size (k0_off5_inb i))) (View.ld x3 (Rect.unit (s := S1x1x2048x128) (k0_off6 i) S1x1x256x128.size (k0_off6_inb i))) (state x0 x1 x2 x3 x4 (i 2).val).1 (state x0 x1 x2 x3 x4 (i 2).val).2)
      (k0_pay23 (k0_pay16 x0 x1) (View.ld x2 (Rect.unit (s := S1x2048x128) (k0_off5 i) S1x256x128.size (k0_off5_inb i))) (View.ld x3 (Rect.unit (s := S1x1x2048x128) (k0_off6 i) S1x1x256x128.size (k0_off6_inb i))) (state x0 x1 x2 x3 x4 (i 2).val).1)
      (constant S1024x256 .f32 0x00000000#32) = final x0 x1 x2 x3 x4 (i 2).val := by
    unfold final
    rw [ld_rows x4 _ hn8 _ _ (funext (off5 i)), ld_rows x2 _ hn8 _ _ (funext (off5 i)), ld_rows4 x3 _ hn8 _ _ (funext (off6 i))]
  simp only [pb_k0_t2.eq_1, List.nil_append, View.readAt_eq_ld, harg3.read_unread, harg4.read_unread, harg5.read_unread,
    harg6.read_unread, harg7.read_unread, View.ld_unit_zero (S := S4x256x128) hz3, View.ld_unit_zero (S := S8x128) hz2]
  rw [cov10, read10, cov9, cov10, View.writes_append, View.writes_append, hl.1, hl.2]
  have hd := d.isLt
  have hr := r.isLt
  clear hl
  canon_tiles x h
  · refine (congrFun (congrArg k0_pay7 ef) x).trans ?_
    clear ef
    idx_vars x
    pointwise [k0_pay7]
    refine congrArg (FloatOps.truncf .bf16 bitsLt_bf16_f32) (congrArg (k0_pay3 _) (congrArg₂ ix2 (Fin.ext ?_) (Fin.ext ?_))) <;> dsimp only <;> omega
  · refine (congrFun (congrArg k0_pay6 ef) x).trans ?_
    clear ef
    idx_vars x
    pointwise [k0_pay6]
    refine congrArg (FloatOps.truncf .bf16 bitsLt_bf16_f32) (congrArg (k0_pay3 _) (congrArg₂ ix2 (Fin.ext ?_) (Fin.ext ?_))) <;> dsimp only <;> omega
  · refine (congrFun (congrArg k0_pay5 ef) x).trans ?_
    clear ef
    idx_vars x
    pointwise [k0_pay5]
    refine congrArg (FloatOps.truncf .bf16 bitsLt_bf16_f32) (congrArg (k0_pay3 _) (congrArg₂ ix2 (Fin.ext ?_) (Fin.ext ?_))) <;> dsimp only <;> omega
  · refine (congrFun (congrArg k0_pay4 ef) x).trans ?_
    clear ef
    idx_vars x
    pointwise [k0_pay4]
    refine congrArg (FloatOps.truncf .bf16 bitsLt_bf16_f32) (congrArg (k0_pay3 _) (congrArg₂ ix2 (Fin.ext ?_) (Fin.ext ?_))) <;> dsimp only <;> omega
end Cert.KernelIdeal.Val
end
-- ==== Proof.Softmax.lean ====
module

public import Idealize.ShloMosaic.PureOps.Ideal
public import Idealize.ShloMosaic.Lib.Pointwise

@[expose] public section
noncomputable section

open Idealize.ShloMosaic
open Finset

/-! The running softmax over the extended reals: scores are finite or `⊥`, the first one finite. -/

namespace Cert.Fox

/-- The largest of the first `n` scores. -/
def top (f : ℕ → EReal) (n : ℕ) : EReal := (range n).sup f

/-- The sum of the first `n` values, each weighted by the exponential of its score below the largest. -/
def acc (f w : ℕ → EReal) (n : ℕ) : EReal := ∑ k ∈ range n, Ideal.exp (f k - top f n) * w k

theorem acc_zero (f w : ℕ → EReal) : acc f w 0 = 0 := by simp [acc]

theorem top_zero (f : ℕ → EReal) : top f 0 = ⊥ := by simp [top]

theorem exp_nonneg (x : EReal) : 0 ≤ Ideal.exp x := by
  induction x using EReal.rec with
  | bot => simp
  | top => simp
  | coe r => simp only [Ideal.exp_coe]; exact_mod_cast (Real.exp_pos r).le

theorem exp_ne_top {x : EReal} (h : x ≠ ⊤) : Ideal.exp x ≠ ⊤ := by
  induction x using EReal.rec with
  | bot => simp
  | top => exact absurd rfl h
  | coe r => simp

theorem exp_shift {a b x : EReal} (ha : a ≠ ⊤) (ha' : a ≠ ⊥) (hb : b ≠ ⊤) (hb' : b ≠ ⊥) (hx : x ≠ ⊤) :
    Ideal.exp (a - b) * Ideal.exp (x - a) = Ideal.exp (x - b) := by
  lift a to ℝ using ⟨ha, ha'⟩
  lift b to ℝ using ⟨hb, hb'⟩
  induction x using EReal.rec with
  | bot => simp [EReal.bot_sub]
  | top => exact absurd rfl hx
  | coe r =>
    rw [← EReal.coe_sub, ← EReal.coe_sub, ← EReal.coe_sub, Ideal.exp_coe, Ideal.exp_coe, Ideal.exp_coe, ← EReal.coe_mul,
      ← Real.exp_add]
    congr 2; ring

theorem mul_sum {r : EReal} (h0 : 0 ≤ r) (ht : r ≠ ⊤) {ι : Type} (s : Finset ι) (g : ι → EReal) :
    r * ∑ k ∈ s, g k = ∑ k ∈ s, r * g k := by
  classical
  induction s using Finset.induction_on with
  | empty => simp
  | insert a s ha ih => rw [sum_insert ha, sum_insert ha, EReal.left_distrib_of_nonneg_of_ne_top h0 ht, ih]

theorem top_ne_top {f : ℕ → EReal} (hf : ∀ k, f k ≠ ⊤) (n : ℕ) : top f n ≠ ⊤ :=
  ((Finset.sup_lt_iff bot_lt_top).2 fun k _ => lt_top_iff_ne_top.2 (hf k)).ne

theorem top_ne_bot {f : ℕ → EReal} (h0 : f 0 ≠ ⊥) {n : ℕ} (hn : 0 < n) : top f n ≠ ⊥ := fun h =>
  h0 (le_bot_iff.1 (h ▸ Finset.le_sup (f := f) (mem_range.2 hn)))

theorem fold_max {b : ℕ} (g : Fin b → EReal) : (univ : Finset (Fin b)).fold max ⊥ g = univ.sup g := rfl

theorem top_add (f : ℕ → EReal) (n b : ℕ) :
    top f (n + b) = max (top f n) ((univ : Finset (Fin b)).fold max ⊥ fun j => f (n + j.val)) := by
  rw [fold_max]
  apply le_antisymm
  · refine Finset.sup_le fun k hk => ?_
    have hk := mem_range.1 hk
    by_cases h : k < n
    · exact le_max_of_le_left (Finset.le_sup (f := f) (mem_range.2 h))
    · refine le_max_of_le_right ?_
      have := Finset.le_sup (f := fun j : Fin b => f (n + j.val)) (mem_univ (⟨k - n, by omega⟩ : Fin b))
      simpa [show n + (k - n) = k by omega] using this
  · refine max_le (Finset.sup_mono (range_subset_range.2 (by omega))) (Finset.sup_le fun j _ => ?_)
    exact Finset.le_sup (f := f) (mem_range.2 (by omega))

/-- One block of the running softmax. -/
theorem acc_add {f : ℕ → EReal} (w : ℕ → EReal) (hf : ∀ k, f k ≠ ⊤) (h0 : f 0 ≠ ⊥) (n b : ℕ) :
    acc f w (n + b) = Ideal.exp (top f n - top f (n + b)) * acc f w n
      + ∑ j : Fin b, Ideal.exp (f (n + j.val) - top f (n + b)) * w (n + j.val) := by
  unfold acc
  rw [Finset.sum_range_add, Finset.sum_range (n := b)]
  congr 1
  rcases Nat.eq_zero_or_pos n with rfl | hn
  · simp
  · have hnb : 0 < n + b := by omega
    have h1 := top_ne_top hf n
    have h2 := top_ne_bot h0 hn
    have h3 := top_ne_top hf (n + b)
    have h4 := top_ne_bot h0 hnb
    rw [mul_sum (exp_nonneg _) (exp_ne_top ?_)]
    · refine sum_congr rfl fun k _ => ?_
      rw [← mul_assoc, exp_shift h1 h2 h3 h4 (hf k)]
    · revert h1 h2 h3 h4
      generalize top f n = a
      generalize top f (n + b) = c
      intro h1 h2 h3 h4
      lift a to ℝ using ⟨h1, h2⟩
      lift c to ℝ using ⟨h3, h4⟩
      rw [← EReal.coe_sub]; exact EReal.coe_ne_top _

/-- Scores of `⊥` past the `n`th change neither the maximum nor the sum. -/
theorem top_tail {f : ℕ → EReal} {n N : ℕ} (hn : n ≤ N) (h : ∀ k, n ≤ k → k < N → f k = ⊥) : top f n = top f N := by
  apply le_antisymm
  · exact Finset.sup_mono (range_subset_range.2 hn)
  · refine Finset.sup_le fun k hk => ?_
    by_cases hk' : k < n
    · exact Finset.le_sup (f := f) (mem_range.2 hk')
    · rw [h k (by omega) (mem_range.1 hk)]; exact bot_le

theorem acc_tail {f : ℕ → EReal} (w : ℕ → EReal) {n N : ℕ} (hn : n ≤ N) (h : ∀ k, n ≤ k → k < N → f k = ⊥) :
    acc f w n = acc f w N := by
  unfold acc
  rw [top_tail hn h]
  refine sum_subset (range_subset_range.2 hn) fun k hk hk' => ?_
  rw [h k (by simpa using hk') (mem_range.1 hk), EReal.bot_sub, Ideal.exp_bot, zero_mul]

/-- The normaliser is a positive real. -/
theorem norm_real {f : ℕ → EReal} (hf : ∀ k, f k ≠ ⊤) (h0 : f 0 ≠ ⊥) {n : ℕ} (hn : 0 < n) :
    ∃ r : ℝ, 0 < r ∧ ∑ k ∈ range n, Ideal.exp (f k - top f n) = (r : EReal) := by
  have h1 := top_ne_top hf n
  have h2 := top_ne_bot h0 hn
  generalize top f n = a at h1 h2
  lift a to ℝ using ⟨h1, h2⟩
  have key : ∀ k, ∃ r : ℝ, 0 ≤ r ∧ Ideal.exp (f k - a) = (r : EReal) ∧ (f k ≠ ⊥ → 0 < r) := by
    intro k
    have hk := hf k
    generalize f k = x at hk
    induction x using EReal.rec with
    | bot => exact ⟨0, le_rfl, by simp [EReal.bot_sub], fun h => absurd rfl h⟩
    | top => exact absurd rfl hk
    | coe r => exact ⟨Real.exp (r - a), (Real.exp_pos _).le, by rw [← EReal.coe_sub, Ideal.exp_coe], fun _ => Real.exp_pos _⟩
  choose e he he' hp using key
  refine ⟨∑ k ∈ range n, e k, ?_, ?_⟩
  · exact Finset.sum_pos' (fun k _ => he k) ⟨0, mem_range.2 hn, hp 0 h0⟩
  · rw [sum_congr rfl fun k _ => he' k]
    induction range n using Finset.induction_on with
    | empty => simp
    | insert a s ha ih => rw [sum_insert ha, sum_insert ha, ih, EReal.coe_add]

/-- Dividing the weighted sum by the sum of weights is weighting by normalised weights. -/
theorem ratio {f : ℕ → EReal} (w : ℕ → EReal) (hf : ∀ k, f k ≠ ⊤) (h0 : f 0 ≠ ⊥) {n : ℕ} (hn : 0 < n) :
    Ideal.div (acc f w n) (acc f (fun _ => 1) n)
      = ∑ k ∈ range n, w k * Ideal.div (Ideal.exp (f k - top f n)) (∑ k ∈ range n, Ideal.exp (f k - top f n)) := by
  obtain ⟨r, hr, e⟩ := norm_real hf h0 hn
  have e1 : acc f (fun _ => 1) n = (r : EReal) := by rw [← e]; simp [acc]
  rw [e1, e, Ideal.div_coe hr.ne']
  have hr' : (0 : EReal) ≤ ((1 / r : ℝ) : EReal) := by exact_mod_cast (one_div_pos.2 hr).le
  unfold acc
  rw [mul_comm, mul_sum hr' (EReal.coe_ne_top _)]
  refine sum_congr rfl fun k _ => ?_
  rw [Ideal.div_coe hr.ne']
  ac_rfl

/-- Adding one real to every score changes no difference from the maximum. -/
theorem top_shift {f : ℕ → EReal} (c : ℝ) (n : ℕ) (hn : 0 < n) : top (fun k => f k + c) n = top f n + c := by
  apply le_antisymm
  · exact Finset.sup_le fun k hk => add_le_add_left (Finset.le_sup (f := f) hk) _
  · obtain ⟨k, hk, e⟩ := Finset.exists_mem_eq_sup (range n) ⟨0, mem_range.2 hn⟩ f
    unfold top
    rw [e]
    exact Finset.le_sup (f := fun k => f k + (c : EReal)) hk

theorem sub_shift {a : EReal} (c : ℝ) (ha : a ≠ ⊤) (ha' : a ≠ ⊥) (x : EReal) : x + c - (a + c) = x - a := by
  lift a to ℝ using ⟨ha, ha'⟩
  induction x using EReal.rec with
  | bot => rfl
  | top => rfl
  | coe r =>
    rw [← EReal.coe_add, ← EReal.coe_add, ← EReal.coe_sub, ← EReal.coe_sub]
    congr 1; ring

end Cert.Fox
end
-- ==== Proof.Pay.lean ====
module

public import proofs.«01_k».proof.Proof.Body
public import proofs.«01_k».proof.Proof.Softmax

@[expose] public section
set_option maxRecDepth 16384
noncomputable section

open Idealize.ShloMosaic Idealize.ShloMosaic.TcCoe Idealize.SL.Sem
namespace Cert.KernelIdeal.Val
open Cert.KernelIdeal Cert.KernelIdeal.Gen

variable (x0 : Vec Ideal S4x256x128 .bf16) (x1 : Vec Ideal S8x128 .f32) (x2 : Vec Ideal S1x2048x128 .bf16)
    (x3 : Vec Ideal S1x1x2048x128 .bf16) (x4 : Vec Ideal S1x2048x128 .bf16)

/-- Entry `e` of key `k`'s row: the key, then the columns that carry the forget gate. -/
def kaug (k : ℕ) (e : Fin 256) : EReal :=
  if h : e.val < 128 then x2 (ix3 0 ⟨k % 2048, Nat.mod_lt _ (by decide)⟩ ⟨e.val, h⟩)
  else x3 (ix4 0 0 ⟨k % 2048, Nat.mod_lt _ (by decide)⟩ ⟨e.val - 128, by omega⟩)

/-- The score of row `p` of the queries against key `k`. -/
def sc (q : FVec Ideal S1024x256 .bf16) (p : Fin 1024) (k : ℕ) : EReal :=
  ∑ e : Fin 256, q (ix2 p e) * kaug x2 x3 k e

/-- Column `x` of key `k`'s row of values: the value, then ones. -/
def vaug (x : Fin 256) (k : ℕ) : EReal :=
  if h : x.val < 128 then x4 (ix3 0 ⟨k % 2048, Nat.mod_lt _ (by decide)⟩ ⟨x.val, h⟩) else 1

theorem named_mask : Named.named (F := Ideal) κ "mask" (φ := .f32) 0xF149F2CA#32 = (⊥ : EReal) :=
  IdealRules.named_const.ideal_named_scalar _ _ _ _ rfl

theorem ofBits_neg_inf : Ideal.ofBits .f32 0xFF800000#32 = ⊥ := by
  simp [Ideal.ofBits, Ideal.ieee]

theorem pay8_at (q : FVec Ideal S1024x256 .bf16) (n : ℕ) (p : Fin 1024) (j : Fin 256) :
    k0_pay8 q (rows x2 n) (rows4 x3 n) (ix2 p j) = sc x2 x3 q p (256 * n + j.val) := by
  pointwise [k0_pay8, sc, kaug, rows, rows4]

theorem pay9_at (q : FVec Ideal S1024x256 .bf16) (n : ℕ) (m : Vec Ideal S1024x128 .f32) (p : Fin 1024) (l : Fin 128) :
    k0_pay9 q (rows x2 n) (rows4 x3 n) m (ix2 p l)
      = max (m (ix2 p l)) ((Finset.univ : Finset (Fin 256)).fold max ⊥ fun j => sc x2 x3 q p (256 * n + j.val)) := by
  simp only [← pay8_at]
  pointwise [k0_pay9]
  rw [ofBits_neg_inf]

/-- The accumulator after one more block, where the running maximum is `M` before and `M'` after. -/
theorem pay10_at (q : FVec Ideal S1024x256 .bf16) (n : ℕ) (m : Vec Ideal S1024x128 .f32) (a : Vec Ideal S1024x256 .f32)
    (p : Fin 1024) (x : Fin 256) (M M' : EReal) (hM : ∀ l, m (ix2 p l) = M)
    (hM' : ∀ l, k0_pay9 q (rows x2 n) (rows4 x3 n) m (ix2 p l) = M') :
    k0_pay10 q (rows x2 n) (rows4 x3 n) (rows x4 n) m a (ix2 p x)
      = Ideal.exp (M - M') * a (ix2 p x)
        + ∑ j : Fin 256, Ideal.exp (sc x2 x3 q p (256 * n + j.val) - M') * vaug x4 x (256 * n + j.val) := by
  pointwise [k0_pay10, rows]
  simp only [hM, hM', dite_eq_ite, ite_self, pay8_at]
  exact congrArg _ (Fin.sum_univ_add (a := 128) (b := 128)
    (fun j : Fin 256 => Ideal.exp (sc x2 x3 q p (256 * n + j.val) - M') * vaug x4 x (256 * n + j.val))).symm

theorem sel (a b : ℕ) (ha : a < 256) (hb : b < 256) (A B : EReal) :
    Scalar.select (IntOp.cmpi CmpIPredicate.sge (BitVec.ofNat 32 a) (BitVec.ofNat 32 b)) A B = if b ≤ a then A else B := by
  rw [WordCmp.cmpi_sge_ofNat (by omega) (by omega)]
  by_cases h : b ≤ a <;> simp [h, Scalar.select]

theorem pay20_at (q : FVec Ideal S1024x256 .bf16) (n : ℕ) (p : Fin 1024) (j : Fin 256) :
    k0_pay20 q (rows x2 n) (rows4 x3 n) (ix2 p j) = if j.val ≤ p.val % 256 then sc x2 x3 q p (256 * n + j.val) else ⊥ := by
  have hp := p.isLt
  have hj := j.isLt
  pointwise [k0_pay20, sc, kaug, rows, rows4]
  rw [named_mask]
  by_cases h1 : p.val < 256
  · rw [dif_pos h1, sel _ _ (by omega) (by omega), show p.val % 256 = p.val by omega]
  · rw [dif_neg h1]
    by_cases h2 : p.val - 256 < 256
    · rw [dif_pos h2, sel _ _ (by omega) (by omega), show p.val % 256 = p.val - 256 by omega]
      simp only [show ∀ h, (⟨256 + (p.val - 256), h⟩ : Fin 1024) = p from fun h => Fin.ext (by show 256 + (p.val - 256) = p.val; omega)]
    · rw [dif_neg h2]
      by_cases h3 : p.val - 256 - 256 < 256
      · rw [dif_pos h3, sel _ _ (by omega) (by omega), show p.val % 256 = p.val - 256 - 256 by omega]
        simp only [show ∀ h, (⟨512 + (p.val - 256 - 256), h⟩ : Fin 1024) = p from fun h => Fin.ext (by show 512 + (p.val - 256 - 256) = p.val; omega)]
      · rw [dif_neg h3, sel _ _ (by omega) (by omega), show p.val % 256 = p.val - 256 - 256 - 256 by omega]
        simp only [show ∀ h, (⟨768 + (p.val - 256 - 256 - 256), h⟩ : Fin 1024) = p from fun h => Fin.ext (by show 768 + (p.val - 256 - 256 - 256) = p.val; omega)]

theorem pay21_at (q : FVec Ideal S1024x256 .bf16) (n : ℕ) (m : Vec Ideal S1024x128 .f32) (p : Fin 1024) (l : Fin 128) :
    k0_pay21 q (rows x2 n) (rows4 x3 n) m (ix2 p l)
      = max (m (ix2 p l)) ((Finset.univ : Finset (Fin 256)).fold max ⊥ fun j =>
          if j.val ≤ p.val % 256 then sc x2 x3 q p (256 * n + j.val) else ⊥) := by
  simp only [← pay20_at]
  pointwise [k0_pay21]
  rw [ofBits_neg_inf]

/-- The accumulator after the block on the diagonal. -/
theorem diag_at (q : FVec Ideal S1024x256 .bf16) (n : ℕ) (m : Vec Ideal S1024x128 .f32) (a : Vec Ideal S1024x256 .f32)
    (p : Fin 1024) (x : Fin 256) (M M' : EReal) (hM : ∀ l, m (ix2 p l) = M)
    (hM' : ∀ l, k0_pay21 q (rows x2 n) (rows4 x3 n) m (ix2 p l) = M') :
    k0_pay1 (k0_pay19 (rows x4 n)) (k0_pay22 q (rows x2 n) (rows4 x3 n) m a) (k0_pay23 q (rows x2 n) (rows4 x3 n) m)
        (constant S1024x256 .f32 0x00000000#32) (ix2 p x)
      = Ideal.exp (M - M') * a (ix2 p x)
        + ∑ j : Fin 256, Ideal.exp ((if j.val ≤ p.val % 256 then sc x2 x3 q p (256 * n + j.val) else ⊥) - M')
            * vaug x4 x (256 * n + j.val) := by
  pointwise [k0_pay1, k0_pay19, k0_pay22, k0_pay23, rows]
  simp only [hM, hM', dite_eq_ite, ite_self, pay20_at]
  exact congrArg _ (Fin.sum_univ_add (a := 128) (b := 128)
    (fun j : Fin 256 => Ideal.exp ((if j.val ≤ p.val % 256 then sc x2 x3 q p (256 * n + j.val) else ⊥) - M')
            * vaug x4 x (256 * n + j.val))).symm

/-- Row `p` of the running state after `n` blocks, where the scores are those of `g`. -/
theorem state_at (p : Fin 1024) (g : ℕ → EReal) (hf : ∀ k, g k ≠ ⊤) (h0 : g 0 ≠ ⊥) (n : ℕ)
    (hg : ∀ k < 256 * n, sc x2 x3 (k0_pay16 x0 x1) p k = g k) :
    (∀ l, (state x0 x1 x2 x3 x4 n).1 (ix2 p l) = Fox.top g (256 * n))
    ∧ ∀ x, (state x0 x1 x2 x3 x4 n).2 (ix2 p x) = Fox.acc g (vaug x4 x) (256 * n) := by
  induction n with
  | zero =>
    refine ⟨fun l => ?_, fun x => ?_⟩
    · rw [Nat.mul_zero, Fox.top_zero]
      show k0_pay17 (ix2 p l) = ⊥
      pointwise [k0_pay17]
      exact named_mask
    · rw [Nat.mul_zero, Fox.acc_zero]
      show k0_pay18 (ix2 p x) = 0
      pointwise [k0_pay18]
  | succ n ih =>
    obtain ⟨ih1, ih2⟩ := ih fun k hk => hg k (by omega)
    have hM' : ∀ l, k0_pay9 (k0_pay16 x0 x1) (rows x2 n) (rows4 x3 n) (state x0 x1 x2 x3 x4 n).1 (ix2 p l)
        = Fox.top g (256 * n + 256) := by
      intro l
      rw [pay9_at, ih1, Fox.top_add]
      have e : (fun j : Fin 256 => sc x2 x3 (k0_pay16 x0 x1) p (256 * n + j.val)) = fun j => g (256 * n + j.val) :=
        funext fun j => hg _ (by omega)
      rw [e]
    refine ⟨fun l => ?_, fun x => ?_⟩
    · rw [Nat.mul_succ, ← hM' l]
      show k0_pay11 _ _ _ _ (ix2 p l) = _
      pointwise [k0_pay11]
    · rw [Nat.mul_succ, Fox.acc_add _ hf h0, ← ih2]
      refine (pay10_at x2 x3 x4 _ n _ _ p x _ _ ih1 hM').trans ?_
      refine congrArg _ (Finset.sum_congr rfl fun j _ => ?_)
      rw [hg _ (by omega)]

/-- Row `p` of the accumulator after the diagonal block. -/
theorem final_at (p : Fin 1024) (g : ℕ → EReal) (hf : ∀ k, g k ≠ ⊤) (h0 : g 0 ≠ ⊥) (n : ℕ)
    (hg : ∀ k < 256 * n, sc x2 x3 (k0_pay16 x0 x1) p k = g k)
    (hd : ∀ j : Fin 256, (if j.val ≤ p.val % 256 then sc x2 x3 (k0_pay16 x0 x1) p (256 * n + j.val) else ⊥)
      = g (256 * n + j.val)) (x : Fin 256) :
    final x0 x1 x2 x3 x4 n (ix2 p x) = Fox.acc g (vaug x4 x) (256 * n + 256) := by
  obtain ⟨h1, h2⟩ := state_at x0 x1 x2 x3 x4 p g hf h0 n hg
  unfold final
  rw [diag_at x2 x3 x4 _ n _ _ p x _ (Fox.top g (256 * n + 256)) h1 ?_, h2, Fox.acc_add _ hf h0]
  · simp only [hd]
  · intro l
    rw [pay21_at, h1, Fox.top_add]
    simp only [hd]

/-- The quotient of a value column by the column of ones. -/
theorem pay3_at (p : Fin 1024) (g : ℕ → EReal) (hf : ∀ k, g k ≠ ⊤) (h0 : g 0 ≠ ⊥) (n : ℕ)
    (hg : ∀ k < 256 * n, sc x2 x3 (k0_pay16 x0 x1) p k = g k)
    (hd : ∀ j : Fin 256, (if j.val ≤ p.val % 256 then sc x2 x3 (k0_pay16 x0 x1) p (256 * n + j.val) else ⊥)
      = g (256 * n + j.val)) (d : Fin 128) :
    k0_pay3 (final x0 x1 x2 x3 x4 n) (ix2 p d)
      = Ideal.div (Fox.acc g (fun k => x4 (ix3 0 ⟨k % 2048, Nat.mod_lt _ (by decide)⟩ d)) (256 * n + 256))
          (Fox.acc g (fun _ => 1) (256 * n + 256)) := by
  pointwise [k0_pay3]
  rw [final_at x0 x1 x2 x3 x4 p g hf h0 n hg hd, final_at x0 x1 x2 x3 x4 p g hf h0 n hg hd]
  have e1 : vaug x4 ⟨d.val, by omega⟩ = fun k => x4 (ix3 0 ⟨k % 2048, Nat.mod_lt _ (by decide)⟩ d) := by
    funext k; unfold vaug; rw [dif_pos d.isLt]
  have e2 : vaug x4 ⟨128 + d.val, by omega⟩ = fun _ => 1 := by
    funext k; unfold vaug; rw [dif_neg (by show ¬ (128 + d.val < 128); omega)]
  rw [e1, e2]

/-- Row `p`, column `e` of the widened queries. -/
theorem pay16_at (p : Fin 1024) (e : Fin 256) :
    k0_pay16 x0 x1 (ix2 p e)
      = if h : e.val < 128 then x0 (ix3 ⟨p.val / 256, by omega⟩ ⟨p.val % 256, by omega⟩ ⟨e.val, h⟩)
        else x1 (ix2 ⟨p.val / 256, by omega⟩ ⟨e.val - 128, by omega⟩) := by
  have hp := p.isLt
  pointwise [k0_pay16]
  split_ifs with h h1 h2 h3
  · rfl
  all_goals exact congrArg x1 (congrArg₂ ix2 (Fin.ext (by show _ = p.val / 256; simp; omega)) rfl)
end Cert.KernelIdeal.Val
end
-- ==== Proof.Operands.lean ====
module

public import proofs.«01_k».proof.Proof.Pay
public import proofs.«01_k».proof.Proof.Gen.KernelIdeal.Value
public import Idealize.ShloMosaic.Lib.Pipeline.ValueKit
public import Idealize.ShloMosaic.Lib.StableHlo.ReadAt

@[expose] public section
set_option maxRecDepth 16384
noncomputable section

open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD)

/-- The queries as the kernel's windows find them. -/
theorem q_at (h : Fin 16) (t : Fin 16384) (d : Fin 128) :
    V m c main_v2 (ix3 h t d)
      = m ((c : Thread nD τ).loc main_arg0) (ix5 ⟨t.val / 2048, by omega⟩ ⟨t.val % 2048, by omega⟩ ⟨h.val / 4, by omega⟩ ⟨h.val % 4, by omega⟩ d) := by
  unfold V
  after_reads_at

theorem k_at (h : Fin 8) (t : Fin 16384) (d : Fin 128) :
    V m c main_v6 (ix3 h t d)
      = if hh : h.val < 4 then m ((c : Thread nD τ).loc main_arg1) (ix4 ⟨t.val / 2048, by omega⟩ ⟨t.val % 2048, by omega⟩ ⟨h.val, hh⟩ d)
        else m ((c : Thread nD τ).loc main_arg2) (ix4 ⟨t.val / 2048, by omega⟩ ⟨t.val % 2048, by omega⟩ ⟨h.val - 4, by omega⟩ d) := by
  unfold V
  after_reads_at
  after_reads_at

/-- Query `s` of batch `b`, head `r` of group `g`, at entry `d`. -/
def qry (b : Fin 8) (s : Fin 2048) (g r : Fin 4) (d : Fin 128) : EReal := m ((c : Thread nD τ).loc main_arg0) (ix5 b s g r d)
/-- Key `k` of group `g`. -/
def key (b : Fin 8) (k : Fin 2048) (g : Fin 4) (d : Fin 128) : EReal := m ((c : Thread nD τ).loc main_arg1) (ix4 b k g d)
/-- Value `k` of group `g`. -/
def val (b : Fin 8) (k : Fin 2048) (g : Fin 4) (d : Fin 128) : EReal := m ((c : Thread nD τ).loc main_arg2) (ix4 b k g d)
/-- The gate of head `h` at key `s` of batch `b`. -/
def gate (b : Fin 8) (s : Fin 2048) (h : Fin 16) : EReal := m ((c : Thread nD τ).loc main_arg3) (ix3 b s h)

theorem c_raw (b : Fin 8) (g : Fin 4) (s : Fin 2048) (e : Fin 128) :
    V m c main_v24 (ix4 b g s e)
      = if h : e.val < 12 then
          if _h : e.val % 3 < 1 then gate m c b s ⟨4 * g.val + e.val / 3, by omega⟩
          else if _h : e.val % 3 - 1 < 1 then
            gate m c b s ⟨4 * g.val + e.val / 3, by omega⟩ - gate m c b s ⟨4 * g.val + e.val / 3, by omega⟩
          else
            gate m c b s ⟨4 * g.val + e.val / 3, by omega⟩ - gate m c b s ⟨4 * g.val + e.val / 3, by omega⟩
              - (gate m c b s ⟨4 * g.val + e.val / 3, by omega⟩ - gate m c b s ⟨4 * g.val + e.val / 3, by omega⟩)
        else FloatOps.sitofp (F := Ideal) .bf16 0#32 := by
  unfold V gate
  after_reads_at
  after_reads_at
  blk_point

theorem sitofp_zero : FloatOps.sitofp (F := Ideal) .bf16 0#32 = (0 : EReal) := by
  change (((0#32 : BitVec 32).toInt : ℝ) : EReal) = 0
  simp

theorem pieces (n : ℕ) (x : EReal) (hz : x - x = 0) :
    (if _h : n % 3 < 1 then x else if _h : n % 3 - 1 < 1 then x - x else x - x - (x - x)) = if n % 3 = 0 then x else 0 := by
  rw [hz]
  split_ifs
  any_goals rfl
  any_goals omega
  all_goals simp

theorem c_at (b : Fin 8) (g : Fin 4) (s : Fin 2048) (e : Fin 128)
    (hx : ∀ h, gate m c b s h - gate m c b s h = 0) :
    V m c main_v24 (ix4 b g s e)
      = (if h : e.val < 12 then (if e.val % 3 = 0 then gate m c b s ⟨4 * g.val + e.val / 3, by omega⟩ else 0) else 0 : EReal) := by
  refine (c_raw m c b g s e).trans ?_
  by_cases h : e.val < 12
  · rw [dif_pos h, dif_pos h]
    exact pieces e.val _ (hx ⟨4 * g.val + e.val / 3, by omega⟩)
  · rw [dif_neg h, dif_neg h]
    exact sitofp_zero

theorem idx : ∀ t : Fin cfg0.N, win0_0.index t = ![(grid0.coords t 1).val, 8 * (grid0.coords t 0).val + (grid0.coords t 2).val, 0]
    ∧ win0_1.index t = ![0, 0] ∧ win0_2.index t = ![(grid0.coords t 1).val, (grid0.coords t 0).val, 0]
    ∧ win0_3.index t = ![(grid0.coords t 0).val, (grid0.coords t 1).val, 0, 0]
    ∧ win0_4.index t = ![4 + (grid0.coords t 1).val, (grid0.coords t 0).val, 0]
    ∧ win0_5.index t = ![8 * (grid0.coords t 0).val + (grid0.coords t 2).val, (grid0.coords t 1).val] :=
  (by decide +kernel : ∀ t : Fin grid0.N, _)

theorem lit_at : ∀ (r : Fin 4) (e : Fin 128), lit0 ⟨r.val * 128 + e.val, by omega⟩ = if e.val / 3 = r.val then 0xBF800000#32 else 0x00000000#32 := by
  decide +kernel

theorem ofBits_zero : Ideal.ofBits .f32 0x00000000#32 = 0 := by
  simp [Ideal.ofBits, Ideal.ieee]

theorem ofBits_neg_one : Ideal.ofBits .f32 0xBF800000#32 = -1 := by
  simp [Ideal.ofBits, Ideal.ieee, -EReal.coe_mul]; norm_num

theorem cst_eq  : V m c main_cst = fun i => FloatOps.ofBits (F := Ideal) .f32 (lit0 (S8x128.rowMajor i)) := by
  unfold V
  after_reads_simp
  rfl

theorem qx_at (r : Fin 8) (hr : r.val < 4) (e : Fin 128) :
    V m c main_cst (ix2 r e) = (if e.val / 3 = r.val then -1 else 0 : EReal) := by
  have h2 : S8x128.rowMajor (ix2 r e) = ⟨r.val * 128 + e.val, by change _ < 1024; omega⟩ :=
    Fin.ext (Shape.rowMajor_val_two _)
  refine (congrFun (cst_eq m c) (ix2 r e)).trans ?_
  refine (congrArg (fun n => FloatOps.ofBits (F := Ideal) .f32 (lit0 n)) h2).trans ?_
  refine (congrArg (Ideal.ofBits .f32) (lit_at ⟨r.val, hr⟩ e)).trans ?_
  split_ifs
  · exact ofBits_neg_one
  · exact ofBits_zero

/-- The score of query `s` of batch `b`, head `4 g + r`, against key `k`, without the query's own gate. -/
def score (b : Fin 8) (g r : Fin 4) (s k : Fin 2048) : EReal :=
  (∑ d : Fin 128, qry m c b s g r d * key m c b k g d) - gate m c b k ⟨4 * g.val + r.val, by omega⟩

variable (t : Fin cfg0.N) (b : Fin 8) (g : Fin 4) (i : Fin 8) (hb : (grid0.coords t 0).val = b.val)
  (hg : (grid0.coords t 1).val = g.val) (hi : (grid0.coords t 2).val = i.val)
include hb hg hi

theorem q_blk (r : Fin 4) (y : Fin 256) (d : Fin 128) :
    iblk m c 0 t (ix3 r y d) = qry m c b ⟨256 * i.val + y.val, by omega⟩ g r d := by
  have h : iblk m c 0 t (ix3 r y d) = V m c main_v2 (ix3 ⟨4 * g.val + r.val, by omega⟩ ⟨2048 * b.val + 256 * i.val + y.val, by omega⟩ d) := by
    blk_ext [iblk, idx t]
  rw [h, q_at, qry]
  blk_ext

theorem k_blk (k : Fin 2048) (d : Fin 128) :
    iblk m c 2 t (ix3 0 k d) = key m c b k g d := by
  have h : iblk m c 2 t (ix3 0 k d) = V m c main_v6 (ix3 ⟨g.val, by omega⟩ ⟨2048 * b.val + k.val, by omega⟩ d) := by
    blk_ext [iblk, idx t]
  rw [h, k_at, dif_pos (by simp), key]
  blk_ext

theorem v_blk (k : Fin 2048) (d : Fin 128) :
    iblk m c 4 t (ix3 0 k d) = val m c b k g d := by
  have h : iblk m c 4 t (ix3 0 k d) = V m c main_v6 (ix3 ⟨4 + g.val, by omega⟩ ⟨2048 * b.val + k.val, by omega⟩ d) := by
    blk_ext [iblk, idx t]
  rw [h, k_at, dif_neg (by simp), val]
  blk_ext

theorem kx_blk (k : Fin 2048) (e : Fin 128) (hx : ∀ h, gate m c b k h - gate m c b k h = 0) :
    iblk m c 3 t (ix4 0 0 k e)
      = (if h : e.val < 12 then (if e.val % 3 = 0 then gate m c b k ⟨4 * g.val + e.val / 3, by omega⟩ else 0) else 0 : EReal) := by
  have h : iblk m c 3 t (ix4 0 0 k e) = V m c main_v24 (ix4 b g k e) := by
    blk_ext [iblk, idx t]
  rw [h, c_at m c b g k e hx]

theorem qx_blk (r : Fin 8) (hr : r.val < 4) (e : Fin 128) :
    iblk m c 1 t (ix2 r e) = (if e.val / 3 = r.val then -1 else 0 : EReal) := by
  have h : iblk m c 1 t (ix2 r e) = V m c main_cst (ix2 r e) := by
    blk_ext [iblk, idx t]
  rw [h, qx_at m c r hr e]

theorem sc_eq (hx : ∀ k h, gate m c b k h - gate m c b k h = 0) (r : Fin 4) (y : Fin 256) (k : Fin 2048) :
    sc (iblk m c 2 t) (iblk m c 3 t) (k0_pay16 (iblk m c 0 t) (iblk m c 1 t)) ⟨256 * r.val + y.val, by omega⟩ k.val
      = score m c b g r ⟨256 * i.val + y.val, by omega⟩ k := by
  unfold sc score
  have hk : (⟨k.val % 2048, Nat.mod_lt _ (by decide)⟩ : Fin 2048) = k := Fin.ext (Nat.mod_eq_of_lt k.isLt)
  have h1 : (⟨(256 * r.val + y.val) / 256, by omega⟩ : Fin 4) = r := Fin.ext (by dsimp only; omega)
  have h2 : (⟨(256 * r.val + y.val) % 256, by omega⟩ : Fin 256) = y := Fin.ext (by dsimp only; omega)
  refine (Fin.sum_univ_add (a := 128) (b := 128) _).trans ?_
  rw [sub_eq_add_neg]
  refine congrArg₂ (fun u v : EReal => u + v) (Finset.sum_congr rfl fun d _ => ?_) ?_
  · rw [pay16_at, kaug, dif_pos (by simp), dif_pos (by simp), hk]
    refine congrArg₂ (fun u v : EReal => u * v) ?_ ?_
    · refine Eq.trans ?_ (q_blk m c t b g i hb hg hi r y d)
      exact congrArg _ (by rw [h1, h2]; rfl)
    · exact k_blk m c t b g i hb hg hi k d
  · refine (Finset.sum_congr (g := fun e : Fin 128 => (if e.val / 3 = r.val then -1 else 0 : EReal) *
      (if h : e.val < 12 then (if e.val % 3 = 0 then gate m c b k ⟨4 * g.val + e.val / 3, by omega⟩ else 0) else 0 : EReal)) rfl fun e _ => ?_).trans ?_
    · rw [pay16_at, kaug, dif_neg (by simp), dif_neg (by simp), hk]
      refine congrArg₂ (fun u v : EReal => u * v) ?_ ?_
      · refine Eq.trans ?_ (qx_blk m c t b g i hb hg hi ⟨r.val, by omega⟩ r.isLt e)
        exact congrArg _ (by blk_ext <;> simp)
      · refine Eq.trans ?_ (kx_blk m c t b g i hb hg hi k e (hx k))
        exact congrArg _ (by blk_ext <;> simp)
    · rw [Finset.sum_eq_single (⟨3 * r.val, by omega⟩ : Fin 128)]
      · rw [if_pos (by dsimp only; omega), dif_pos (by dsimp only; omega), if_pos (by dsimp only; omega)]
        have h3 : (⟨4 * g.val + 3 * r.val / 3, by omega⟩ : Fin 16) = ⟨4 * g.val + r.val, by omega⟩ := Fin.ext (by dsimp only; omega)
        rw [h3, neg_one_mul]
      · intro e _ he
        by_cases h3 : e.val / 3 = r.val
        · have : ¬ e.val % 3 = 0 := fun h4 => he (Fin.ext (by dsimp only; omega))
          simp [this]
        · rw [if_neg h3, zero_mul]
      · intro h; exact absurd (Finset.mem_univ _) h

end Cert.KernelIdeal.Val
-- ==== Proof.Ref.lean ====
module

public import proofs.«01_k».proof.Proof.Operands
public import proofs.«01_k».proof.Proof.Gen.ReferenceIdeal.Run
public import Idealize.ShloMosaic.Lib.Pointwise

@[expose] public section
set_option maxRecDepth 16384
noncomputable section

open Idealize.ShloMosaic Idealize.ShloMosaic.TcCoe Idealize.SL.Sem
namespace Cert.ReferenceIdeal.Val
open Cert.ReferenceIdeal Cert.ReferenceIdeal.Gen

/-- The masked scores. -/
def refS (x0 : FVec Ideal S8x2048x4x4x128 .f32) (x1 : FVec Ideal S8x2048x4x128 .f32) (x3 : FVec Ideal S8x2048x16 .f32) :
    FVec Ideal S8x4x4x2048x2048 .f32 :=
  (select (broadcastInDim S8x4x4x2048x2048 ![3, 4] bcast_S2048x2048_S8x4x4x2048x2048_3_4 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (subf (addf (transpose S8x4x4x2048x2048 [0, 1, 4, 3, 2] (Host.dotGeneral dot_S8x2048x4x128_S8x2048x4x4x128_S8x4x2048x2048x4_3_4_1_13_02_02 none x1 x0) transposes_S8x4x2048x2048x4_S8x4x4x2048x2048_0_1_4_3_2) (broadcastInDim S8x4x4x2048x2048 ![0, 1, 2, 3, 4] bcast_S8x4x4x2048x1_S8x4x4x2048x2048_0_1_2_3_4 (broadcastInDim S8x4x4x2048x1 ![0, 1, 2, 3] bcast_S8x4x4x2048_S8x4x4x2048x1_0_1_2_3 (transpose S8x4x4x2048 [0, 2, 3, 1] (shapeCast _ x3 shapeCasts_S8x2048x16_S8x2048x4x4) transposes_S8x2048x4x4_S8x4x4x2048_0_2_3_1)))) (broadcastInDim S8x4x4x2048x2048 ![0, 1, 2, 3, 4] bcast_S8x4x4x1x2048_S8x4x4x2048x2048_0_1_2_3_4 (broadcastInDim S8x4x4x1x2048 ![0, 1, 2, 4] bcast_S8x4x4x2048_S8x4x4x1x2048_0_1_2_4 (transpose S8x4x4x2048 [0, 2, 3, 1] (shapeCast _ x3 shapeCasts_S8x2048x16_S8x2048x4x4) transposes_S8x2048x4x4_S8x4x4x2048_0_2_3_1)))) (broadcastInDim S8x4x4x2048x2048 ![] bcast_S_S8x4x4x2048x2048 (id (constant (F := Ideal) S_ .f32 0xFF800000#32))))

/-- Their row maxima. -/
def refM (s : FVec Ideal S8x4x4x2048x2048 .f32) : FVec Ideal S8x4x4x2048 .f32 :=
  (Host.reduce FloatOps.maximumf s (constant (F := Ideal) S_ .f32 0xFF800000#32) reducesTo_S8x4x4x2048x2048_S8x4x4x2048_d4 h_S_)

/-- The row maxima, with 0 for one that is not finite. -/
def refN (M : FVec Ideal S8x4x4x2048 .f32) : FVec Ideal S8x4x4x2048x1 .f32 :=
  (select (cmpf .olt (Host.absf (broadcastInDim S8x4x4x2048x1 ![0, 1, 2, 3] bcast_S8x4x4x2048_S8x4x4x2048x1_0_1_2_3 M)) (broadcastInDim S8x4x4x2048x1 ![] bcast_S_S8x4x4x2048x1 (constant (F := Ideal) S_ .f32 0x7F800000#32))) (broadcastInDim S8x4x4x2048x1 ![0, 1, 2, 3] bcast_S8x4x4x2048_S8x4x4x2048x1_0_1_2_3 M) (broadcastInDim S8x4x4x2048x1 ![] bcast_S_S8x4x4x2048x1 (id (constant (F := Ideal) S_ .f32 0x00000000#32))))

/-- The unnormalised weights. -/
def refE (s : FVec Ideal S8x4x4x2048x2048 .f32) : FVec Ideal S8x4x4x2048x2048 .f32 :=
  (Host.exp (subf s (broadcastInDim S8x4x4x2048x2048 ![0, 1, 2, 3, 4] bcast_S8x4x4x2048x1_S8x4x4x2048x2048_0_1_2_3_4 (refN (refM s)))))

/-- Their row sums. -/
def refD (s : FVec Ideal S8x4x4x2048x2048 .f32) : FVec Ideal S8x4x4x2048 .f32 :=
  (Host.reduceAdd (refE s) (constant (F := Ideal) S_ .f32 0x00000000#32) reducesTo_S8x4x4x2048x2048_S8x4x4x2048_d4 h_S_)

/-- The result from the masked scores and the values. -/
def refO (s : FVec Ideal S8x4x4x2048x2048 .f32) (x2 : FVec Ideal S8x2048x4x128 .f32) : FVec Ideal S16384x2048 .bf16 :=
  truncf .bf16 (shapeCast _ (transpose S8x2048x4x4x128 [0, 4, 1, 3, 2] (Host.dotGeneral dot_S8x2048x4x128_S8x4x4x2048x2048_S8x4x128x4x2048_1_4_3_23_02_01 none x2 (Host.divf (refE s) (broadcastInDim S8x4x4x2048x2048 ![0, 1, 2, 3, 4] bcast_S8x4x4x2048x1_S8x4x4x2048x2048_0_1_2_3_4 (select (cmpf .ogt (broadcastInDim S8x4x4x2048x1 ![0, 1, 2, 3] bcast_S8x4x4x2048_S8x4x4x2048x1_0_1_2_3 (refD s)) (broadcastInDim S8x4x4x2048x1 ![] bcast_S_S8x4x4x2048x1 (constant (F := Ideal) S_ .f32 0x00000000#32))) (broadcastInDim S8x4x4x2048x1 ![0, 1, 2, 3] bcast_S8x4x4x2048_S8x4x4x2048x1_0_1_2_3 (refD s)) (broadcastInDim S8x4x4x2048x1 ![] bcast_S_S8x4x4x2048x1 (id (constant (F := Ideal) S_ .f32 0x3F800000#32))))))) transposes_S8x4x128x4x2048_S8x2048x4x4x128_0_4_1_3_2) shapeCasts_S8x2048x4x4x128_S16384x2048) bitsLt_bf16_f32

theorem res_eq (m : (ℓ : Loc nD τ sig) → Buf (Elt Ideal) ℓ) (c : Dev nD) :
    Value.res_main_v36 m c = refO (refS (m ((c.tc : Thread nD τ).loc main_arg0)) (m ((c.tc : Thread nD τ).loc main_arg1)) (m ((c.tc : Thread nD τ).loc main_arg3)))
      (m ((c.tc : Thread nD τ).loc main_arg2)) := by
  unfold Value.res_main_v36 refO refD refE refN refM refS
  rfl

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

theorem S_at (x0 : FVec Ideal S8x2048x4x4x128 .f32) (x1 : FVec Ideal S8x2048x4x128 .f32) (x3 : FVec Ideal S8x2048x16 .f32)
    (b : Fin 8) (g r : Fin 4) (q k : Fin 2048) :
    refS x0 x1 x3 (ix5 b g r q k)
      = if k.val ≤ q.val then ∑ d, x1 (ix4 b k g d) * x0 (ix5 b q g r d) + x3 (ix3 b q ⟨g.val * 4 + r.val, by omega⟩) - x3 (ix3 b k ⟨g.val * 4 + r.val, by omega⟩)
        else (⊥ : EReal) := by
  pointwise [refS]
  have hq := q.isLt
  have hk := k.isLt
  rw [WordCmp.cmpi_sge_ofNat (by omega) (by omega)]
  by_cases h : k.val ≤ q.val
  · simp [Scalar.select, h]
  · simp only [h, decide_false, if_false]
    exact ofBits_neg_inf

theorem M_at (s : FVec Ideal S8x4x4x2048x2048 .f32) (b : Fin 8) (g r : Fin 4) (q : Fin 2048) :
    refM s (ix4 b g r q) = (Finset.univ : Finset (Fin 2048)).fold max ⊥ fun k => s (ix5 b g r q k) := by
  pointwise [refM]
  rw [ofBits_neg_inf]

theorem N_at (M : FVec Ideal S8x4x4x2048 .f32) (b : Fin 8) (g r : Fin 4) (q : Fin 2048) (x : ℝ) (hx : M (ix4 b g r q) = (x : EReal)) :
    refN M (ix5 b g r q 0) = (x : EReal) := by
  pointwise [refN]
  rw [ofBits_inf, if_pos]
  · exact hx
  · rw [hx]
    exact max_lt (EReal.coe_lt_top x) (by rw [← EReal.coe_neg]; exact EReal.coe_lt_top _)

theorem E_at (s : FVec Ideal S8x4x4x2048x2048 .f32) (b : Fin 8) (g r : Fin 4) (q k : Fin 2048) :
    refE s (ix5 b g r q k) = Ideal.exp (s (ix5 b g r q k) - refN (refM s) (ix5 b g r q 0)) := by
  pointwise [refE]

theorem D_at (s : FVec Ideal S8x4x4x2048x2048 .f32) (b : Fin 8) (g r : Fin 4) (q : Fin 2048) :
    refD s (ix4 b g r q) = ∑ k : Fin 2048, refE s (ix5 b g r q k) := by
  pointwise [refD]

/-- One entry of the result, at named coordinates of its row and column. -/
def entry (s : FVec Ideal S8x4x4x2048x2048 .f32) (x2 : FVec Ideal S8x2048x4x128 .f32) (b : Fin 8) (g r : Fin 4) (q : Fin 2048) (d : Fin 128) : EReal :=
  ∑ k : Fin 2048, x2 (ix4 b k g d) * Ideal.div (refE s (ix5 b g r q k))
    (if 0 < refD s (ix4 b g r q) then refD s (ix4 b g r q) else id (constant (F := Ideal) S_ .f32 0x3F800000#32) ix0)

theorem O_raw (s : FVec Ideal S8x4x4x2048x2048 .f32) (x2 : FVec Ideal S8x2048x4x128 .f32) (row : Fin 16384) (col : Fin 2048) :
    refO s x2 (ix2 row col)
      = entry s x2 ⟨row.val / 2048, by omega⟩ ⟨col.val / 512, by omega⟩ ⟨col.val / 128 % 4, by omega⟩ ⟨row.val % 2048, by omega⟩ ⟨col.val % 128, by omega⟩ := by
  unfold entry
  pointwise [refO]

theorem O_at (s : FVec Ideal S8x4x4x2048x2048 .f32) (x2 : FVec Ideal S8x2048x4x128 .f32) (b : Fin 8) (g r : Fin 4) (q : Fin 2048) (d : Fin 128)
    (row : Fin 16384) (col : Fin 2048) (hr : row.val = 2048 * b.val + q.val) (hc : col.val = 512 * g.val + 128 * r.val + d.val)
    (hd : 0 < refD s (ix4 b g r q)) :
    refO s x2 (ix2 row col) = ∑ k : Fin 2048, x2 (ix4 b k g d) * Ideal.div (refE s (ix5 b g r q k)) (refD s (ix4 b g r q)) := by
  have e1 : (⟨row.val / 2048, by omega⟩ : Fin 8) = b := Fin.ext (by dsimp only; omega)
  have e2 : (⟨row.val % 2048, by omega⟩ : Fin 2048) = q := Fin.ext (by dsimp only; omega)
  have e3 : (⟨col.val / 512, by omega⟩ : Fin 4) = g := Fin.ext (by dsimp only; omega)
  have e4 : (⟨col.val / 128 % 4, by omega⟩ : Fin 4) = r := Fin.ext (by dsimp only; omega)
  have e5 : (⟨col.val % 128, by omega⟩ : Fin 128) = d := Fin.ext (by dsimp only; omega)
  rw [O_raw, e1, e2, e3, e4, e5, entry, if_pos hd]

/-- One entry of the result, for a row of scores that are `f` up to a real. -/
theorem row_at (s : FVec Ideal S8x4x4x2048x2048 .f32) (x2 : FVec Ideal S8x2048x4x128 .f32) (b : Fin 8) (g r : Fin 4) (q : Fin 2048) (d : Fin 128)
    (row : Fin 16384) (col : Fin 2048) (hr : row.val = 2048 * b.val + q.val) (hc : col.val = 512 * g.val + 128 * r.val + d.val)
    (f : ℕ → EReal) (hf : ∀ k, f k ≠ ⊤) (h0 : f 0 ≠ ⊥) (γ : ℝ) (hs : ∀ k : Fin 2048, s (ix5 b g r q k) = f k.val + (γ : EReal)) :
    refO s x2 (ix2 row col)
      = Ideal.div (Fox.acc f (fun k => x2 (ix4 b ⟨k % 2048, Nat.mod_lt _ (by decide)⟩ g d)) 2048) (Fox.acc f (fun _ => 1) 2048) := by
  have ht := Fox.top_ne_top hf 2048
  have hb := Fox.top_ne_bot h0 (n := 2048) (by decide)
  have hM : refM s (ix4 b g r q) = Fox.top f 2048 + (γ : EReal) := by
    have h := Fox.top_add (fun k => f k + (γ : EReal)) 0 2048
    rw [Fox.top_zero, max_eq_right bot_le] at h
    simp only [Nat.zero_add] at h
    rw [M_at, ← Fox.top_shift γ 2048 (by decide), h]
    simp only [hs]
  have hN : refN (refM s) (ix5 b g r q 0) = Fox.top f 2048 + (γ : EReal) := by
    generalize Fox.top f 2048 = a at ht hb hM
    lift a to ℝ using ⟨ht, hb⟩
    rw [← EReal.coe_add] at hM ⊢
    exact N_at _ b g r q _ hM
  have hE : ∀ k : Fin 2048, refE s (ix5 b g r q k) = Ideal.exp (f k.val - Fox.top f 2048) := fun k => by
    rw [E_at, hN, hs, Fox.sub_shift γ ht hb]
  have hD : refD s (ix4 b g r q) = ∑ k ∈ Finset.range 2048, Ideal.exp (f k - Fox.top f 2048) := by
    rw [D_at, Finset.sum_range]
    exact Finset.sum_congr rfl fun k _ => hE k
  have hpos : 0 < refD s (ix4 b g r q) := by
    obtain ⟨x, hx, e⟩ := Fox.norm_real hf h0 (n := 2048) (by decide)
    rw [hD, e]
    exact_mod_cast hx
  rw [O_at s x2 b g r q d row col hr hc hpos, Fox.ratio _ hf h0 (by decide), Finset.sum_range]
  refine Finset.sum_congr rfl fun k _ => ?_
  rw [hE, hD]
  have hk : (⟨k.val % 2048, Nat.mod_lt _ (by decide)⟩ : Fin 2048) = k := Fin.ext (Nat.mod_eq_of_lt k.isLt)
  rw [hk]

end Cert.ReferenceIdeal.Val
-- ==== Proof.Fox.lean ====
module

public import proofs.«01_k».proof.Proof.Ref

@[expose] public section
set_option maxRecDepth 16384
noncomputable section

open Idealize.ShloMosaic Idealize.ShloMosaic.TcCoe Idealize.SL.Sem
namespace Cert.KernelIdeal.Val
open Cert.KernelIdeal Cert.KernelIdeal.Gen

variable (m : (ℓ : Loc nD τ sig) → Buf (Elt Ideal) ℓ) (c : Dev nD)

/-- Queries, keys and gates are real numbers. -/
structure Finite : Prop where
  qry : ∀ b s g r d, ∃ x : ℝ, qry m c b s g r d = (x : EReal)
  key : ∀ b k g d, ∃ x : ℝ, key m c b k g d = (x : EReal)
  gate : ∀ b k h, ∃ x : ℝ, gate m c b k h = (x : EReal)

variable {m c}

theorem dot_real (H : Finite m c) (b : Fin 8) (g r : Fin 4) (s k : Fin 2048) :
    ∃ x : ℝ, ∑ d : Fin 128, qry m c b s g r d * key m c b k g d = (x : EReal) := by
  refine Finset.sum_induction _ (fun y : EReal => ∃ x : ℝ, y = (x : EReal)) ?_ ⟨0, rfl⟩ fun d _ => ?_
  · rintro _ _ ⟨x, rfl⟩ ⟨y, rfl⟩
    exact ⟨x + y, (EReal.coe_add x y).symm⟩
  · obtain ⟨x, hx⟩ := H.qry b s g r d
    obtain ⟨y, hy⟩ := H.key b k g d
    exact ⟨x * y, by rw [hx, hy, EReal.coe_mul]⟩

theorem score_real (H : Finite m c) (b : Fin 8) (g r : Fin 4) (s k : Fin 2048) : ∃ x : ℝ, score m c b g r s k = (x : EReal) := by
  obtain ⟨x, hx⟩ := dot_real H b g r s k
  obtain ⟨y, hy⟩ := H.gate b k ⟨4 * g.val + r.val, by omega⟩
  exact ⟨x - y, by rw [score, hx, hy, EReal.coe_sub]⟩

theorem gate_sub (H : Finite m c) (b : Fin 8) (k : Fin 2048) (h : Fin 16) : gate m c b k h - gate m c b k h = 0 := by
  obtain ⟨x, hx⟩ := H.gate b k h
  rw [hx, ← EReal.coe_sub, sub_self, EReal.coe_zero]

variable (m c) in
/-- The causal scores of a query, a function of the key's number. -/
def row (b : Fin 8) (g r : Fin 4) (q : Fin 2048) (k : ℕ) : EReal :=
  if k ≤ q.val then score m c b g r q ⟨k % 2048, Nat.mod_lt _ (by decide)⟩ else ⊥

theorem row_ne_top (H : Finite m c) (b : Fin 8) (g r : Fin 4) (q : Fin 2048) (k : ℕ) : row m c b g r q k ≠ ⊤ := by
  unfold row
  split_ifs
  · obtain ⟨x, hx⟩ := score_real H b g r q ⟨k % 2048, Nat.mod_lt _ (by decide)⟩
    rw [hx]
    exact EReal.coe_ne_top x
  · exact bot_ne_top

theorem row_zero (H : Finite m c) (b : Fin 8) (g r : Fin 4) (q : Fin 2048) : row m c b g r q 0 ≠ ⊥ := by
  unfold row
  rw [if_pos (Nat.zero_le _)]
  obtain ⟨x, hx⟩ := score_real H b g r q ⟨0 % 2048, Nat.mod_lt _ (by decide)⟩
  rw [hx]
  exact EReal.coe_ne_bot x

theorem row_of_le (b : Fin 8) (g r : Fin 4) (q : Fin 2048) (k : Fin 2048) (h : k.val ≤ q.val) : row m c b g r q k.val = score m c b g r q k := by
  unfold row
  rw [if_pos h]
  exact congrArg _ (Fin.ext (Nat.mod_eq_of_lt k.isLt))

variable (m c) in
/-- The reference's result, of the kernel's arguments. -/
def goal : FVec Ideal S16384x2048 .bf16 :=
  Cert.ReferenceIdeal.Val.refO (Cert.ReferenceIdeal.Val.refS (m ((c : Thread nD τ).loc main_arg0)) (m ((c : Thread nD τ).loc main_arg1)) (m ((c : Thread nD τ).loc main_arg3)))
    (m ((c : Thread nD τ).loc main_arg2))

theorem goal_at (H : Finite m c) (b : Fin 8) (g r : Fin 4) (q : Fin 2048) (d : Fin 128)
    (i : Fin 16384) (j : Fin 2048) (hi : i.val = 2048 * b.val + q.val) (hj : j.val = 512 * g.val + 128 * r.val + d.val) :
    goal m c (ix2 i j) = Ideal.div (Fox.acc (row m c b g r q) (fun k => val m c b ⟨k % 2048, Nat.mod_lt _ (by decide)⟩ g d) 2048)
      (Fox.acc (row m c b g r q) (fun _ => 1) 2048) := by
  obtain ⟨γ, hγ⟩ := H.gate b q ⟨4 * g.val + r.val, by omega⟩
  refine Cert.ReferenceIdeal.Val.row_at _ _ b g r q d i j hi hj _ (row_ne_top H b g r q) (row_zero H b g r q) γ fun k => ?_
  rw [Cert.ReferenceIdeal.Val.S_at]
  by_cases h : k.val ≤ q.val
  · rw [if_pos h, row_of_le b g r q k h]
    have h4 : (⟨g.val * 4 + r.val, by omega⟩ : Fin 16) = ⟨4 * g.val + r.val, by omega⟩ := Fin.ext (by dsimp only; omega)
    rw [h4]
    have e1 : (∑ d : Fin 128, key m c b k g d * qry m c b q g r d : EReal) = ∑ d : Fin 128, qry m c b q g r d * key m c b k g d :=
      Finset.sum_congr rfl fun d _ => mul_comm _ _
    refine (congrArg₂ (fun u v : EReal => u + v - gate m c b k ⟨4 * g.val + r.val, by omega⟩) e1 hγ).trans ?_
    unfold score
    obtain ⟨x, hx⟩ := dot_real H b g r q k
    obtain ⟨y, hy⟩ := H.gate b k ⟨4 * g.val + r.val, by omega⟩
    rw [hx, hy, ← EReal.coe_add, ← EReal.coe_sub, ← EReal.coe_sub, ← EReal.coe_add]
    congr 1
    ring
  · rw [if_neg h, row, if_neg h, EReal.bot_add]

theorem point (H : Finite m c) (t : Fin cfg0.N) (b : Fin 8) (g : Fin 4) (i : Fin 8) (hb : (grid0.coords t 0).val = b.val)
    (hg : (grid0.coords t 1).val = g.val) (hi : (grid0.coords t 2).val = i.val) (y : Fin 256) (e : Fin 512) :
    outsAt0 m c t (ix2 y e) = goal m c (ix2 ⟨2048 * b.val + 256 * i.val + y.val, by omega⟩ ⟨512 * g.val + e.val, by omega⟩) := by
  have hr : e.val / 128 < 4 := by omega
  have hd : e.val % 128 < 128 := by omega
  have hq : 256 * i.val + y.val < 2048 := by omega
  rw [goal_at H b g ⟨e.val / 128, hr⟩ ⟨256 * i.val + y.val, hq⟩ ⟨e.val % 128, hd⟩ _ _ (by dsimp only; omega) (by dsimp only; omega)]
  unfold outsAt0
  refine (out_eq ..).trans ?_
  have hmod : (256 * (e.val / 128) + y.val) % 256 = y.val := by omega
  have hs := sc_eq m c t b g i hb hg hi (fun k h => gate_sub H b k h) ⟨e.val / 128, hr⟩ y
  refine (pay3_at _ _ _ _ _ ⟨256 * (e.val / 128) + y.val, by omega⟩ (row m c b g ⟨e.val / 128, hr⟩ ⟨256 * i.val + y.val, hq⟩)
    (row_ne_top H _ _ _ _) (row_zero H _ _ _ _) _ (fun k hk => ?_) (fun j => ?_) ⟨e.val % 128, hd⟩).trans ?_
  · rw [hi] at hk
    have hk' : k < 2048 := by omega
    exact (hs ⟨k, hk'⟩).trans (row_of_le _ _ _ ⟨256 * i.val + y.val, hq⟩ ⟨k, hk'⟩ (by dsimp only; omega)).symm
  · have hj := j.isLt
    rw [hi]
    dsimp only
    rw [hmod]
    by_cases h : j.val ≤ y.val
    · have hk' : 256 * i.val + j.val < 2048 := by omega
      rw [if_pos h]
      exact (hs ⟨256 * i.val + j.val, hk'⟩).trans (row_of_le _ _ _ ⟨256 * i.val + y.val, hq⟩ ⟨256 * i.val + j.val, hk'⟩ (by dsimp only; omega)).symm
    · rw [if_neg h, row, if_neg (by dsimp only; omega)]
  · rw [hi]
    have ht : ∀ k, 256 * i.val + 256 ≤ k → k < 2048 → row m c b g ⟨e.val / 128, hr⟩ ⟨256 * i.val + y.val, hq⟩ k = ⊥ := fun k h1 _ => by
      rw [row, if_neg (by dsimp only; omega)]
    rw [Fox.acc_tail _ (by omega) ht, Fox.acc_tail _ (by omega) ht]
    refine congrArg (fun w => Ideal.div (Fox.acc _ w 2048) _) (funext fun k => ?_)
    exact v_blk m c t b g i hb hg hi ⟨k % 2048, Nat.mod_lt _ (by decide)⟩ ⟨e.val % 128, hd⟩

theorem array_eq (H : Finite m c) : (dats m 0 c).arrAt 5 cfg0.N = goal m c := by
  refine (dats m 0 c).arrAt_eq_of_covers 5 _ (by decide +kernel) fun t hf y => ?_
  have h : (dats m 0 c).after 5 t = outsAt0 m c t := by dsimp only [dats]
  blk_simp
  rw [h]
  have hb := (grid0.coords t 0).isLt
  have hg := (grid0.coords t 1).isLt
  have hi := (grid0.coords t 2).isLt
  change _ < 8 at hb
  change _ < 4 at hg
  change _ < 8 at hi
  idx_vars y
  refine (point H t ⟨_, hb⟩ ⟨_, hg⟩ ⟨_, hi⟩ rfl rfl rfl _ _).trans ?_
  refine congrArg _ ?_
  blk_ext [idx t]

end Cert.KernelIdeal.Val
-- ==== Proof.Pre.lean ====
module

public import proofs.«01_k».proof.Defs
public import proofs.«01_k».proof.Proof.Ref

@[expose] public section
set_option maxRecDepth 16384
noncomputable section

open Idealize.ShloMosaic Idealize.ShloMosaic.TcCoe Idealize.SL.Sem
namespace Cert.Pre_finite_scores

/-- The precondition's side conditions. -/
theorem facts : Facts where
  bcast_S_S8x2048x4x4x128 := by decide
  reducesTo_S8x2048x4x4x128_S_d0_1_2_3_4 := by decide
  h_S_ := by decide
  bcast_S_S8x2048x4x128 := by decide
  reducesTo_S8x2048x4x128_S_d0_1_2_3 := by decide
  bcast_S_S8x2048x16 := by decide
  reducesTo_S8x2048x16_S_d0_1_2 := by decide

theorem andi_one {a b : BitVec 1} (h : IntOp.andi a b = 1#1) : a = 1#1 ∧ b = 1#1 := by
  revert a b
  decide

theorem foldl_one {ι : Type} (l : List ι) (y : ι → BitVec 1) (a : BitVec 1)
    (h : l.foldl (fun r n => IntOp.andi r (y n)) a = 1#1) : a = 1#1 ∧ ∀ n ∈ l, y n = 1#1 := by
  induction l generalizing a with
  | nil => exact ⟨h, fun n hn => absurd hn (List.not_mem_nil)⟩
  | cons n l ih =>
    obtain ⟨h1, h2⟩ := ih _ h
    obtain ⟨h3, h4⟩ := andi_one h1
    refine ⟨h3, fun k hk => ?_⟩
    rcases List.mem_cons.1 hk with rfl | hk
    · exact h4
    · exact h2 k hk

/-- A conjunction over a whole array holds at each of its entries. -/
theorem all_one {s : Shape} {axes : List (Fin s.rank)} (x : s.Idx → BitVec 1) (v : S_.Idx → BitVec 1) (h : s.ReducesTo axes S_) (hu : 0 < S_.numel)
    (j : S_.Idx) (e : Host.reduce IntOp.andi x v h hu j = 1#1) (i : s.Idx) : x i = 1#1 := by
  have h1 := (foldl_one _ _ _ e).2 (s.rowMajor i) (List.mem_filter.2 ⟨List.mem_finRange _, by
    rw [decide_eq_true_eq]
    funext a
    exact a.elim0⟩)
  rwa [Equiv.symm_apply_apply] at h1

theorem real_of_abs {x : EReal} (h : BitVec.ofBool (decide (max x (-x) < Ideal.ofBits .f32 0x7F800000#32)) = 1#1) : ∃ r : ℝ, x = (r : EReal) := by
  rw [Cert.ReferenceIdeal.Val.ofBits_inf] at h
  have h1 : max x (-x) < ⊤ := by
    by_contra hn
    rw [decide_eq_false hn] at h
    exact absurd h (by decide)
  have h2 := max_lt_iff.1 h1
  induction x using EReal.rec with
  | bot => exact absurd h2.2 (by simp)
  | top => exact absurd h2.1 (by simp)
  | coe r => exact ⟨r, rfl⟩

variable [Facts]

theorem finite_of (x0 : FVec Ideal S8x2048x4x4x128 .f32) (x1 x2 : FVec Ideal S8x2048x4x128 .f32) (x3 : FVec Ideal S8x2048x16 .f32)
    (h : fn x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have h := congrFun h (fun a => a.elim0)
  unfold fn at h
  obtain ⟨h', h3⟩ := andi_one h
  obtain ⟨h1, h2⟩ := andi_one h'
  exact ⟨fun i => real_of_abs (all_one _ _ _ _ _ h1 i), fun i => real_of_abs (all_one _ _ _ _ _ h2 i), fun i => real_of_abs (all_one _ _ _ _ _ h3 i)⟩

end Cert.Pre_finite_scores
-- ==== Proof.FoxClaims.lean ====
/- The claims about the forgetting attention: the runs of `Proof/Gen/` with the kernel's result named by `Fox.lean`
   and the reference's by `Ref.lean`. -/
module

public import proofs.«01_k».proof.Defs
public import proofs.«01_k».proof.Proof.Fox
public import proofs.«01_k».proof.Proof.Pre
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run

@[expose] public section
noncomputable section

namespace Cert.Proof.FoxClaims
open Idealize.ShloMosaic Idealize.SL.Sem

theorem kernel : Cert.quiescent_Kernel := fun m ρ _ => Cert.Kernel.Gen.frame m ρ

theorem kernelIdeal : Cert.quiescent_KernelIdeal := fun m ρ _ => Cert.KernelIdeal.Gen.frame m ρ

theorem kernelIdeal_pre [Cert.Pre_finite_scores.Facts] : Cert.quiescent_KernelIdeal_pre_finite_scores :=
  fun m ρ _ => Cert.KernelIdeal.Gen.frame m ρ

theorem referenceIdeal : Cert.quiescent_ReferenceIdeal := fun m ρ _ =>
  (θ_run _ _ _).mono (fun r h => ⟨fun c => (h c).2, sem_eq_zero_of_no_sems (by decide) r.2⟩) (Cert.ReferenceIdeal.Value.run m ρ)

theorem referenceIdeal_pre [Cert.Pre_finite_scores.Facts] : Cert.quiescent_ReferenceIdeal_pre_finite_scores :=
  fun m ρ _ => referenceIdeal m ρ trivial

theorem preserves : Cert.preserves_Kernel_KernelIdeal :=
  IdealRules.named_const.statement Cert.KernelIdeal.κ "mask" .f32 0xF149F2CA#32 ⊥ rfl

/-- The precondition makes every query, key and gate a number. -/
theorem finite [Cert.Pre_finite_scores.Facts] (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.KernelIdeal.Val.Finite m c := by
  obtain ⟨h0, h1, h3⟩ := Cert.Pre_finite_scores.finite_of _ _ _ _ (h c)
  exact ⟨fun b s g r d => h0 _, fun b k g d => h1 _, fun b k g => h3 _⟩

/-- The kernel's result is the reference's at the same arguments. -/
theorem algebraic [Cert.Pre_finite_scores.Facts] : Cert.algebraic_KernelIdeal_ReferenceIdeal_pre_finite_scores := by
  intro m g m' g' hp ha
  refine ⟨fun c => Cert.KernelIdeal.Val.goal m c, ?_, ?_⟩
  · exact (θ_run _ _ _).mono (fun r h c => ⟨(h c).1.trans (Cert.KernelIdeal.Val.array_eq (finite m hp c)), (h c).2⟩)
      (Cert.KernelIdeal.Value.run_blocks m g)
  · refine (θ_run _ _ _).mono (fun r h c => ⟨(h c).1.trans ?_, (h c).2⟩) (Cert.ReferenceIdeal.Value.run m' g')
    obtain ⟨h0, h1, h2, h3⟩ := ha c
    rw [Cert.ReferenceIdeal.Val.res_eq m' c, h0, h1, h2, h3]
    rfl

end Cert.Proof.FoxClaims

end
-- ==== Proof.ExpertsKit.lean ====
/- The experts' kernel: @main up to the launch, the tables the launch reads, the blocks of the windows, the memrefs
   the body is handed. -/
module

public import proofs.«01_k».proof.Proof.Gen.Kernel2Ideal.Launch
public import proofs.«01_k».proof.Proof.Gen.Kernel2Ideal.Skeleton
public import proofs.«01_k».proof.Proof.Gen.Kernel2Ideal
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The output window is written back at every point, whatever the tables hold. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

/-- The kernel's body at point `t`, on the staging buffers that point uses. -/
abbrev bodyAt0 (a : (pcfg0 (F := F)).Adm) (t : Fin (cfg0 a).N) : Prog (TpuEff nD τ sig (Elt F) Λ₀ .tc) PUnit :=
  cc0_expert_mlp (grid0.coords t) (Memref.whole main_v17) (Memref.isWhole_whole _) (Memref.whole main_v3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-! ## Up to the launch -/

/-- What the buffers hold when the launch begins: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the launch: the host operations, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The launch finds argument 0 as the program was given it. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The launch finds argument 1 as the program was given it. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The launch finds argument 2 as the program was given it. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The launch finds argument 3 as the program was given it. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The launch finds argument 4 as the program was given it. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- What the two tables hold when the launch begins. -/
def tbl : pre0.Contents (Elt F) := fun j => V m (0 : Dev nD) (pre0.ref j)
/-- There is one device, so every device's tables hold that. -/
theorem V_pre (c : Dev nD) (j : Fin 2) : V m c (pre0.ref j) = tbl m j := by
  obtain rfl : c = 0 := Subsingleton.elim _ _; rfl
/-- The blocks the tables name lie inside their arrays. Proved of every memory in the module of the tables. -/
abbrev Ok : Prop := ok0 (F := F) (tbl m)
/-- The tables' contents with that fact, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: a whole buffer. -/
abbrev tbM0_0 : Memref sig .tc .smem S160 .i32 := Memref.whole main_v17
abbrev htbM0_0 : tbM0_0.IsWhole := Memref.isWhole_whole _
abbrev tbM0_1 : Memref sig .tc .smem S1 .i32 := Memref.whole main_v3
abbrev htbM0_1 : tbM0_1.IsWhole := Memref.isWhole_whole _

/-- A table's buffer, of which the body holds half a share: it only reads it. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The halves of both tables. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read from its array as the launch finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- At every point the staging buffer of input 0 holds that point's block. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- At every point the staging buffer of input 1 holds that point's block. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- At every point the staging buffer of input 2 holds that point's block. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- At every point the staging buffer of input 3 holds that point's block. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments at the end -/

/-- From a run that leaves every buffer outside the pipeline as it was, the arguments end as they began. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The staging buffers -/

/-- One staging buffer of the output, through which its contents are stated. Which one does not matter. -/
abbrev VO0_4 : View sig .tc .vmem S256x2048 .f32 := (Memref.whole cc0_stg4_0 : Memref sig .tc .vmem S256x2048 .f32).view
/-- The staging buffer each window uses at point `t`, and that it is whole. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x2048x1024 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x2048x1024 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2048 .f32 := spec0_4.stage ((cfgM m hO).slots t 4)
abbrev hs0_4 (hO : Ok m) (t : Fin (cfgM m hO).N) : (ms0_4 m hO t).IsWhole := hstage0_4 (((cfgM m hO).slots t 4).cast nbuf0_4)

end Cert.Kernel2Ideal.Run

end
-- ==== Proof.ExpertsRun.lean ====
/- One run of the experts' kernel on whole staging memrefs: a block the experts fill, and a block past the used ones. -/
module

public import proofs.«01_k».proof.Proof.ExpertsKit

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 1000000 in
/-- What the body writes to the output's staging buffer where the block is used, together with the triple that it does so. -/
noncomputable def kernelRun0_A (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec F S256x2048 .bf16) (x1 : Vec F S1x1x2048x1024 .bf16) (x2 : Vec F S1x1x2048x1024 .bf16) (x3 : Vec F S1x1x1024x2048 .bf16) (xt0 : TbBuf0 (F := F) c tbM0_0) (xt1 : TbBuf0 (F := F) c tbM0_1)
    (hc0 : ∀ j, k0_cond1 i (xt1 j) = 1#1) (hc1 : ∀ j, ¬k0_cond2 i (xt1 j) = 1#1) :
    { L4 : List (View.Piece (Elt F) S256x2048 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_expert_mlp i tbM0_0 htbM0_0 tbM0_1 htbM0_1 arg3 harg3 arg4 harg4 arg5 harg5 arg6 harg6 arg7 harg7) K } := by
  refine ⟨?_, fun E K => ?run⟩
  case run =>
    simp only [cc0_expert_mlp_eq_skeleton]; unfold cc0_expert_mlp_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact hc0 _ | sl_exact hc1 _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

set_option maxHeartbeats 1000000 in
/-- What the body writes to the output's staging buffer where the block is not used, together with the triple that it does so. -/
noncomputable def kernelRun0_B (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec F S256x2048 .bf16) (x1 : Vec F S1x1x2048x1024 .bf16) (x2 : Vec F S1x1x2048x1024 .bf16) (x3 : Vec F S1x1x1024x2048 .bf16) (xt0 : TbBuf0 (F := F) c tbM0_0) (xt1 : TbBuf0 (F := F) c tbM0_1)
    (hc0 : ∀ j, ¬k0_cond1 i (xt1 j) = 1#1) (hc1 : ∀ j, k0_cond2 i (xt1 j) = 1#1) :
    { L4 : List (View.Piece (Elt F) S256x2048 .f32) //
      ∀ (E : Set ℕ) (K : PUnit → sProp (MT nD τ sig Unit (Elt F) ℕ (UR sig nD τ) ℕ)),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ tbPt0 c tbM0_0 xt0 ∗ tbPt0 c tbM0_1 xt1) -∗ K ⟨⟩))
          ⊢ wp frame (wpE (defs₀ (F := F)) Variants.none c none) E (cc0_expert_mlp i tbM0_0 htbM0_0 tbM0_1 htbM0_1 arg3 harg3 arg4 harg4 arg5 harg5 arg6 harg6 arg7 harg7) K } := by
  refine ⟨?_, fun E K => ?run⟩
  case run =>
    simp only [cc0_expert_mlp_eq_skeleton]; unfold cc0_expert_mlp_skel
    unfold owns
    iintro ⟨⟨%f0, %hf0, H0⟩, ⟨%f1, %hf1, H1⟩, ⟨%f2, %hf2, H2⟩, ⟨%f3, %hf3, H3⟩, ⟨%d4, %f4, -, H4⟩, HT0, HT1, Hk⟩
    obtain rfl := harg3.eq_unread hf0; obtain rfl := harg4.eq_unread hf1; obtain rfl := harg5.eq_unread hf2; obtain rfl := harg6.eq_unread hf3
    sl_exec (disch := first | sl_exact hc0 _ | sl_exact hc1 _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [HT0]; · iexact HT0
    iexact HT1

end Cert.Kernel2Ideal.Run

end
-- ==== Proof.ExpertsBody.lean ====
/- The experts' kernel: what each point leaves in the output's staging buffer; the body at every point. -/
module

public import proofs.«01_k».proof.Proof.ExpertsRun
public import Idealize.ShloMosaic.Lib.Claim

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The stores at a used block cover the staging buffer. -/
theorem cover0_A_4 (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec F S256x2048 .bf16) (x1 : Vec F S1x1x2048x1024 .bf16) (x2 : Vec F S1x1x2048x1024 .bf16) (x3 : Vec F S1x1x1024x2048 .bf16) (xt0 : TbBuf0 (F := F) c tbM0_0) (xt1 : TbBuf0 (F := F) c tbM0_1) (hc0 : ∀ j, k0_cond1 i (xt1 j) = 1#1) (hc1 : ∀ j, ¬k0_cond2 i (xt1 j) = 1#1) (y : S256x2048.Idx) :
    ∃ pc ∈ (kernelRun0_A c i arg3 harg3 arg4 harg4 arg5 harg5 arg6 harg6 arg7 harg7 x0 x1 x2 x3 xt0 xt1 hc0 hc1).1, y ∈ pc.1.set :=
  View.cover_of_tiledL (kernelRun0_A c i arg3 harg3 arg4 harg4 arg5 harg5 arg6 harg6 arg7 harg7 x0 x1 x2 x3 xt0 xt1 hc0 hc1).1 S256x2048.size (by sl_kernel_rfl) y

/-- What a used block leaves in the output's staging buffer. -/
def out0_A_4 (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec F S256x2048 .bf16) (x1 : Vec F S1x1x2048x1024 .bf16) (x2 : Vec F S1x1x2048x1024 .bf16) (x3 : Vec F S1x1x1024x2048 .bf16) (xt0 : TbBuf0 (F := F) c tbM0_0) (xt1 : TbBuf0 (F := F) c tbM0_1) (hc0 : ∀ j, k0_cond1 i (xt1 j) = 1#1) (hc1 : ∀ j, ¬k0_cond2 i (xt1 j) = 1#1) : Vec F S256x2048 .f32 :=
  VO0_4.read (Elt F) (VO0_4.writes (Elt F) VO0_4.junk (kernelRun0_A c i arg3 harg3 arg4 harg4 arg5 harg5 arg6 harg6 arg7 harg7 x0 x1 x2 x3 xt0 xt1 hc0 hc1).1)

/-- The store at an unused block covers the staging buffer. -/
theorem cover0_B_4 (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec F S256x2048 .bf16) (x1 : Vec F S1x1x2048x1024 .bf16) (x2 : Vec F S1x1x2048x1024 .bf16) (x3 : Vec F S1x1x1024x2048 .bf16) (xt0 : TbBuf0 (F := F) c tbM0_0) (xt1 : TbBuf0 (F := F) c tbM0_1) (hc0 : ∀ j, ¬k0_cond1 i (xt1 j) = 1#1) (hc1 : ∀ j, k0_cond2 i (xt1 j) = 1#1) (y : S256x2048.Idx) :
    ∃ pc ∈ (kernelRun0_B c i arg3 harg3 arg4 harg4 arg5 harg5 arg6 harg6 arg7 harg7 x0 x1 x2 x3 xt0 xt1 hc0 hc1).1, y ∈ pc.1.set :=
  View.cover_of_tiledL (kernelRun0_B c i arg3 harg3 arg4 harg4 arg5 harg5 arg6 harg6 arg7 harg7 x0 x1 x2 x3 xt0 xt1 hc0 hc1).1 S256x2048.size (by sl_kernel_rfl) y

/-- What an unused block leaves in the output's staging buffer. -/
def out0_B_4 (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec F S256x2048 .bf16) (x1 : Vec F S1x1x2048x1024 .bf16) (x2 : Vec F S1x1x2048x1024 .bf16) (x3 : Vec F S1x1x1024x2048 .bf16) (xt0 : TbBuf0 (F := F) c tbM0_0) (xt1 : TbBuf0 (F := F) c tbM0_1) (hc0 : ∀ j, ¬k0_cond1 i (xt1 j) = 1#1) (hc1 : ∀ j, k0_cond2 i (xt1 j) = 1#1) : Vec F S256x2048 .f32 :=
  VO0_4.read (Elt F) (VO0_4.writes (Elt F) VO0_4.junk (kernelRun0_B c i arg3 harg3 arg4 harg4 arg5 harg5 arg6 harg6 arg7 harg7 x0 x1 x2 x3 xt0 xt1 hc0 hc1).1)

/-! ## Which blocks are used -/

/-- Point `t`'s block is used: its number is below the word the second table holds. -/
abbrev Used (t : Fin grid0.N) : Prop := ∀ j : S1.Idx, k0_cond1 (grid0.coords t) (tbl m 1 j) = 1#1

/-- The body's two conditions exclude one another and leave nothing out. -/
theorem cond2_iff (i : grid0.Coords) (v : BitVec 32) : k0_cond2 i v = 1#1 ↔ ¬k0_cond1 i v = 1#1 := by
  unfold k0_cond1 k0_cond2
  simp only [Scalar.cmpi, Scalar.extui, IntOp.cmpi, BitVec.slt, BitVec.sle]
  by_cases h : (BitVec.ofNat 32 (i 0).val).toInt < v.toInt
  · have h2 : ¬v.toInt ≤ (BitVec.ofNat 32 (i 0).val).toInt := by omega
    simp [h, h2]
  · have h2 : v.toInt ≤ (BitVec.ofNat 32 (i 0).val).toInt := by omega
    simp [h, h2]

theorem S1_idx (j k : S1.Idx) : j = k := by
  funext a; apply Fin.ext
  have h1 : (j a).val < 1 := lt_of_lt_of_eq (j a).isLt (by fin_cases a; rfl)
  have h2 : (k a).val < 1 := lt_of_lt_of_eq (k a).isLt (by fin_cases a; rfl)
  omega

theorem used_cond2 (t : Fin grid0.N) (h : Used m t) (j : S1.Idx) : ¬k0_cond2 (grid0.coords t) (tbl m 1 j) = 1#1 :=
  fun h2 => (cond2_iff _ _).mp h2 (h j)

theorem unused_cond1 (t : Fin grid0.N) (h : ¬Used m t) (j : S1.Idx) : ¬k0_cond1 (grid0.coords t) (tbl m 1 j) = 1#1 :=
  fun h1 => h fun k => (S1_idx j k) ▸ h1

theorem unused_cond2 (t : Fin grid0.N) (h : ¬Used m t) (j : S1.Idx) : k0_cond2 (grid0.coords t) (tbl m 1 j) = 1#1 :=
  (cond2_iff _ _).mpr (unused_cond1 m t h j)

/-! ## Where the windows are idle: nowhere -/

theorem liveAt0_0 (hO : Ok m) : ∀ t : Fin (cfgM m hO).N, (cfgM m hO).idle 0 (grid0.coords t) = false := fun _ => rfl
theorem liveAt0_1 (hO : Ok m) : ∀ t : Fin (cfgM m hO).N, (cfgM m hO).idle 1 (grid0.coords t) = false := fun _ => rfl
theorem liveAt0_2 (hO : Ok m) : ∀ t : Fin (cfgM m hO).N, (cfgM m hO).idle 2 (grid0.coords t) = false := fun _ => rfl
theorem liveAt0_3 (hO : Ok m) : ∀ t : Fin (cfgM m hO).N, (cfgM m hO).idle 3 (grid0.coords t) = false := fun _ => rfl
theorem idle_4 (a : (pcfg0 (F := F)).Adm) (i : grid0.Coords) : (cfg0 a).idle 4 i = false := by
  change (!(k0_cond1 i (a.1.atD 1 ![0]) == 1#1) && !(k0_cond2 i (a.1.atD 1 ![0]) == 1#1)) = false
  generalize a.1.atD 1 ![0] = v
  by_cases h : k0_cond1 i v = 1#1
  · rw [h]; rfl
  · rw [(cond2_iff i v).mpr h, Bool.and_comm]; rfl
/-- The output is stored into at every point: by one branch or by the other. -/
theorem liveAt0_4 (hO : Ok m) (t : Fin (cfgM m hO).N) : (cfgM m hO).idle 4 (grid0.coords t) = false :=
  idle_4 (adm m hO) (grid0.coords t)

/-! ## What the output holds after each point -/

open Classical in
/-- What the output's staging buffer holds after the body at point `t`: the experts' block where it is used, zeros where not. -/
def outsAt0 (hO : Ok m) (c : Dev nD) (t : Fin (cfgM m hO).N) : Vec F S256x2048 .f32 :=
  if h : Used m t then out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h (used_cond2 m t h)
  else out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (unused_cond1 m t h) (unused_cond2 m t h)

theorem outsAt0_A (hO : Ok m) (c : Dev nD) (t : Fin (cfgM m hO).N) (h : Used m t) :
    outsAt0 m hO c t = out0_A_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) h (used_cond2 m t h) := dif_pos h

theorem outsAt0_B (hO : Ok m) (c : Dev nD) (t : Fin (cfgM m hO).N) (h : ¬Used m t) :
    outsAt0 m hO c t = out0_B_4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (iblk m hO c 0 t) (iblk m hO c 1 t) (iblk m hO c 2 t) (iblk m hO c 3 t) (tbl m 0) (tbl m 1) (unused_cond1 m t h) (unused_cond2 m t h) := dif_neg h

/-! ## The pipeline's proof data -/

/-- The pipeline's proof data: the arrays as the launch finds them; after each point the inputs hold their blocks and the
    output what the body leaves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The arrays in the proof data are what the launch finds. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- What each input's staging buffer holds before the body: its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at a point -/

/-- What the body is called with at point `t`, -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

set_option maxHeartbeats 800000 in
/-- The body at any point, by cases on whether its block is used. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq]
  by_cases h0 : Used m t
  · · rw [after0_0]
      rw [after0_1]
      rw [after0_2]
      rw [after0_3]
      rw [after0_4]
      rw [outsAt0_A m hO c t h0]
      unfold out0_A_4
      iintro ⟨⟨HΦ, ⟨HT0, HT1⟩⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ (iblk m hO c 0 t) (iblk m hO c 1 t) (iblk m hO c 2 t) (iblk m hO c 3 t) (tbl m 0) (tbl m 1) h0 (used_cond2 m t h0)).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      iintro ⟨H0, H1, H2, H3, ⟨%e4, H4⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _ _)
  · · rw [after0_0]
      rw [after0_1]
      rw [after0_2]
      rw [after0_3]
      rw [after0_4]
      rw [outsAt0_B m hO c t h0]
      unfold out0_B_4
      iintro ⟨⟨HΦ, ⟨HT0, HT1⟩⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ (iblk m hO c 0 t) (iblk m hO c 1 t) (iblk m hO c 2 t) (iblk m hO c 3 t) (tbl m 0) (tbl m 1) (unused_cond1 m t h0) (unused_cond2 m t h0)).2 Set.univ _)
      isplitl [H0]; · iexact H0
      isplitl [H1]; · iexact H1
      isplitl [H2]; · iexact H2
      isplitl [H3]; · iexact H3
      isplitl [H4]; · iexists _; iexact H4
      isplitl [HT0]; · iexact HT0
      isplitl [HT1]; · iexact HT1
      iintro ⟨H0, H1, H2, H3, ⟨%e4, H4⟩, HT0, HT1⟩
      isplitl [HΦ HT0 HT1]
      · isplitl [HΦ]
        · iexact HΦ
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

end Cert.Kernel2Ideal.Run

end
-- ==== Proof.ExpertsFrame.lean ====
/- The experts' kernel: its run from any memory, its arguments unchanged. -/
module

public import proofs.«01_k».proof.Proof.ExpertsBody
public import Idealize.ShloMosaic.Lib.Claim

@[expose] public section

set_option maxRecDepth 16384

noncomputable section

namespace Cert.Kernel2Ideal.Run

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- The body the pipeline runs at point `t` is the kernel's on that point's staging buffers. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation of a pipeline whose windows are never idle, from the body's triple with every buffer left at
    what the proof data says. -/
theorem obligation_of_live {cfg : Cfg sig Λ₀} {c : Dev nD} (dat : Dat τ (Elt F) Unit ℕ (UR sig nD τ) ℕ cfg c)
    (hi : ∀ w t, cfg.idle w (cfg.grid.coords t) = false)
    (h : ∀ t : Fin cfg.N,
      iprop(dat.Φ t.castSucc ∗ dat.owesAt () t.castSucc
        ∗ bigSep Finset.univ fun w : Fin cfg.W =>
            iprop(∃ d, owns c ((cfg.win w).stage (cfg.slots t w)) fullShare (dat.before w t d)))
      ⊢ wp frame (wpE (defs₀ (F := F)) Variants.none c none) Set.univ (defs₀ (F := F) .tc cfg.body (cfg.bodyArgs t (cfg.slots t))) fun _ =>
          iprop(dat.Φ t.succ ∗ dat.owesAt () t.succ
            ∗ bigSep Finset.univ fun w : Fin cfg.W => owns c ((cfg.win w).stage (cfg.slots t w)) fullShare (dat.after w t))) :
    BodyObligation dat (defs₀ (F := F)) Variants.none () Set.univ := by
  intro t
  simp only [hi]
  exact h t

theorem live (hO : Ok m) (w : Fin (cfgM m hO).W) (t : Fin (cfgM m hO).N) : (cfgM m hO).idle w (grid0.coords t) = false :=
  match w with
  | ⟨0, _⟩ => liveAt0_0 m hO t
  | ⟨1, _⟩ => liveAt0_1 m hO t
  | ⟨2, _⟩ => liveAt0_2 m hO t
  | ⟨3, _⟩ => liveAt0_3 m hO t
  | ⟨4, _⟩ => liveAt0_4 m hO t

/-- The body obligation, at every point. -/
theorem body_obligation (hO : Ok m) (c : Dev nD) : BodyObligation (dats (F := F) m hO 0 c) (defs₀ (F := F)) Variants.none () Set.univ :=
  obligation_of_live _ (live m hO) fun t => by
    rw [bigSep_W0, bigSep_W0, defs₀_row m hO]
    exact triple_restated (sound_body m hO c t) rfl .rfl fun _ => .rfl

/-! ## The run and the frame -/

set_option backward.isDefEq.respectTransparency.types false in
/-- The launch runs to the end from any memory, and leaves every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The launch runs to the end from any memory, and leaves the arrays at what the proof data says. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The arguments end as they began, and every semaphore is at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel2Ideal.Run

end
-- ==== Proof.ExpertsCount.lean ====
/- The number of experts whose blocks end at or before a given block, cut at thirty-one. -/
module

public import Idealize.ShloMosaic.Lib.Pipeline.ValueKit
public import Idealize.ShloMosaic.Lib.StableHlo.ReadAt

@[expose] public section
noncomputable section

open Idealize.ShloMosaic
namespace Cert.Experts

/-- How many of the thirty-two words are at most `b`, no more than 31. -/
def expertOf (f : Fin 32 → BitVec 32) (b : BitVec 32) : BitVec 32 :=
  IntOp.minsi (Finset.univ.fold IntOp.addi (0#32) fun x => BitVec.setWidth 32 (IntOp.cmpi CmpIPredicate.sle (f x) b)) 31#32

theorem fold_toNat_le (g : Fin 32 → BitVec 1) (s : Finset (Fin 32)) :
    (s.fold IntOp.addi (0#32) fun x => BitVec.setWidth 32 (g x)).toNat ≤ s.card := by
  induction s using Finset.induction_on with
  | empty => simp
  | insert a s ha ih =>
    rw [Finset.fold_insert ha, Finset.card_insert_of_notMem ha]
    have h1 : (BitVec.setWidth 32 (g a)).toNat ≤ 1 := by
      have := (g a).isLt
      rw [BitVec.toNat_setWidth]
      exact (Nat.mod_le _ _).trans (by omega)
    have h2 : ∀ u v : BitVec 32, (IntOp.addi u v).toNat ≤ u.toNat + v.toNat := fun u v => by
      unfold IntOp.addi
      rw [BitVec.toNat_add]; exact Nat.mod_le _ _
    exact (h2 _ _).trans (by omega)

theorem expertOf_lt (f : Fin 32 → BitVec 32) (b : BitVec 32) : (expertOf f b).toNat < 32 := by
  unfold expertOf
  have h := fold_toNat_le (fun x => IntOp.cmpi CmpIPredicate.sle (f x) b) Finset.univ
  rw [Finset.card_univ, Fintype.card_fin] at h
  generalize (Finset.univ.fold IntOp.addi (0#32) fun x => BitVec.setWidth 32 (IntOp.cmpi CmpIPredicate.sle (f x) b)) = v at h ⊢
  unfold IntOp.minsi
  split
  · rename_i h'
    have : v ≠ 32#32 := by rintro rfl; revert h'; decide
    have h3 : v.toNat ≠ 32 := fun e => this (BitVec.eq_of_toNat_eq e)
    omega
  · decide

/-- The expert a block's rows go to, as one of the thirty-two. -/
def expert (f : Fin 32 → BitVec 32) (b : BitVec 32) : Fin 32 := ⟨(expertOf f b).toNat, expertOf_lt f b⟩

theorem expert_val (f : Fin 32 → BitVec 32) (b : BitVec 32) : (expert f b).val = (expertOf f b).toNat := by
  unfold expert
  generalize expertOf_lt f b = h
  revert h
  generalize expertOf f b = w
  intro h
  rfl

/-- A used block's number is not cut down to the last used block's. -/
theorem min_used (i : Fin 160) (n : BitVec 32) (h : (BitVec.ofNat 32 i.val).slt n = true) :
    IntOp.minsi (BitVec.ofNat 32 i.val) (IntOp.subi n 1#32) = BitVec.ofNat 32 i.val := by
  have hi : (BitVec.ofNat 32 i.val).toInt = i.val := by
    rw [BitVec.toInt_eq_toNat_of_lt] <;> rw [BitVec.toNat_ofNat] <;> omega
  rw [BitVec.slt, hi, decide_eq_true_eq] at h
  have hn : (IntOp.subi n 1#32).toInt = n.toInt - 1 := by
    unfold IntOp.subi
    rw [BitVec.toInt_sub]
    have h1 : (1#32 : BitVec 32).toInt = 1 := by decide
    rw [h1]
    have := BitVec.toInt_lt (x := n)
    rw [Int.bmod_eq_of_le] <;> omega
  unfold IntOp.minsi
  split
  · rfl
  · rename_i h'
    rw [BitVec.slt, hi, hn, decide_eq_true_eq] at h'
    apply BitVec.eq_of_toInt_eq
    rw [hi, hn]; omega

end Cert.Experts
end
-- ==== Proof.ExpertsTable.lean ====
/- The experts' kernel: the tables its launch reads. Every block's expert is one of the thirty-two. -/
module

public import proofs.«01_k».proof.Proof.ExpertsKit
public import proofs.«01_k».proof.Proof.ExpertsCount
public import Idealize.ShloMosaic.Lib.Pipeline.ValueKit
public import Idealize.ShloMosaic.Lib.StableHlo.ReadAt

@[expose] public section
set_option maxRecDepth 16384
noncomputable section

open Idealize.ShloMosaic Idealize.ShloMosaic.TcCoe Idealize.SL.Sem
namespace Cert.Kernel2Ideal.Run
open Cert.Kernel2Ideal Cert.Kernel2Ideal.Gen

variable {F : FTy → Type} [FloatOps F]
variable (m : (ℓ : Loc nD τ sig) → Buf (Elt F) ℓ) (c : Dev nD)

theorem v3_at : V m c main_v3 (ix1 0) = m ((c : Thread nD τ).loc main_arg1) (ix1 31) := by
  unfold V
  after_reads_at

/-- The launch argument's words: for each expert the number of blocks up to and including its own. -/
abbrev ends (x : Fin 32) : BitVec 32 := m ((c : Thread nD τ).loc main_arg1) (ix1 x)

/-- The word the first table holds for block `i`. -/
theorem be_at (i : Fin 160) :
    V m c main_v17 (ix1 i)
      = Experts.expertOf (ends m c) (IntOp.minsi (BitVec.ofNat 32 i.val) (IntOp.subi (ends m c 31) 1#32)) := by
  unfold V Experts.expertOf
  after_reads_at

theorem be_lt (j : S160.Idx) : (V m c main_v17 j : BitVec 32).toNat < 32 := by
  obtain ⟨i, rfl⟩ : ∃ i : Fin 160, j = ix1 i := ⟨j 0, by funext a; fin_cases a; rfl⟩
  rw [be_at]; exact Experts.expertOf_lt _ _

/-- Whatever the arguments hold, every block the launch stages lies inside its array. -/
theorem ok : ok0 (F := F) (tbl m) := by
  refine ⟨fun i => ?_, fun i => ?_, fun i => ?_⟩
  · refine ⟨?_, .inr (Affine.block_words_dvd (of_decide_eq_true rfl) (by decide))⟩
    intro a
    unfold cc0_transform_1
    fin_cases a
    · exact (by decide : (0 + 1) * 1 ≤ 2)
    · exact (by omega : ∀ n : ℕ, n < 32 → (n + 1) * 1 ≤ 32) _ (be_lt m 0 _)
    · exact (by decide : (0 + 1) * 2048 ≤ 2048)
    · exact (by decide : (0 + 1) * 1024 ≤ 1024)
  · refine ⟨?_, .inr (Affine.block_words_dvd (of_decide_eq_true rfl) (by decide))⟩
    intro a
    unfold cc0_transform_2
    fin_cases a
    · exact (by decide : (0 + 1) * 1 ≤ 2)
    · exact (by omega : ∀ n : ℕ, n < 32 → (n + 1) * 1 ≤ 32) _ (be_lt m 0 _)
    · exact (by decide : (0 + 1) * 2048 ≤ 2048)
    · exact (by decide : (0 + 1) * 1024 ≤ 1024)
  · refine ⟨?_, .inr (Affine.block_words_dvd (of_decide_eq_true rfl) (by decide))⟩
    intro a
    unfold cc0_transform_3
    fin_cases a
    · exact (by decide : (0 + 1) * 1 ≤ 2)
    · exact (by omega : ∀ n : ℕ, n < 32 → (n + 1) * 1 ≤ 32) _ (be_lt m 0 _)
    · exact (by decide : (0 + 1) * 1024 ≤ 1024)
    · exact (by decide : (0 + 1) * 2048 ≤ 2048)

end Cert.Kernel2Ideal.Run
end
-- ==== Proof.ExpertsOut.lean ====
/- What a point of the experts' kernel leaves in its output block, entry by entry. -/
module

public import proofs.«01_k».proof.Proof.ExpertsFrame
public import proofs.«01_k».proof.Proof.ExpertsTable
public import Idealize.ShloMosaic.Lib.Pipeline.ValueKit.Tiles
public import Idealize.ShloMosaic.Lib.Pipeline.Value
public import Idealize.ShloMosaic.Lib.Pointwise

@[expose] public section
set_option maxRecDepth 16384
noncomputable section

open Idealize.ShloMosaic Idealize.ShloMosaic.TcCoe Idealize.SL.Sem
open Idealize.ShloMosaic.Pipeline (Dat)
namespace Cert.Kernel2Ideal.Run
open Cert.Kernel2Ideal Cert.Kernel2Ideal.Gen

theorem hz2 : (![0, 0] : Fin 2 → Nat) = fun _ => 0 := funext fun a => by fin_cases a <;> rfl

section blocks
variable (x0 : Vec Ideal S256x2048 .bf16) (x1 x2 : Vec Ideal S1x1x2048x1024 .bf16) (x3 : Vec Ideal S1x1x1024x2048 .bf16)

/-- Entry `k` of the hidden row of row `r`. -/
def hid (r : Fin 256) (k : Fin 1024) : EReal :=
  (∑ d : Fin 2048, x0 (ix2 r d) * x1 (ix4 0 0 d k)) * Ideal.logistic (∑ d : Fin 2048, x0 (ix2 r d) * x1 (ix4 0 0 d k))
    * ∑ d : Fin 2048, x0 (ix2 r d) * x2 (ix4 0 0 d k)

theorem pay_at (r : Fin 256) (d : Fin 2048) (i0 i1 i2 i3) :
    k0_pay1 (k0_pay5 x0 (View.ld x1 (Rect.unit (s := S1x1x2048x1024) ![0, 0, 0, 512] S1x1x2048x512.size i1))
        (View.ld x2 (Rect.unit (s := S1x1x2048x1024) ![0, 0, 0, 512] S1x1x2048x512.size i1)))
      (View.ld x3 (Rect.unit (s := S1x1x1024x2048) ![0, 0, 512, 0] S1x1x512x2048.size i3))
      (k0_pay4 x0 (View.ld x1 (Rect.unit (s := S1x1x2048x1024) ![0, 0, 0, 0] S1x1x2048x512.size i0))
        (View.ld x2 (Rect.unit (s := S1x1x2048x1024) ![0, 0, 0, 0] S1x1x2048x512.size i0))
        (View.ld x3 (Rect.unit (s := S1x1x1024x2048) ![0, 0, 0, 0] S1x1x512x2048.size i2))) (ix2 r d)
      = ∑ k : Fin 1024, hid x0 x1 x2 r k * x3 (ix4 0 0 k d) := by
  pointwise [k0_pay1, k0_pay5, k0_pay4, k0_pay3]
  exact (Fin.sum_univ_add (a := 512) (b := 512) (fun k : Fin 1024 => hid x0 x1 x2 r k * x3 (ix4 0 0 k d))).symm

end blocks

/-- A load of the whole block after it was written whole reads what was written. -/
theorem cov (arg7 : Memref sig .tc .vmem S256x2048 .f32) (w : Vec Ideal S256x2048 .f32) :
    arg7.view.readCov (Val := Elt Ideal) [⟨(Rect.unit (s := S256x2048) ![0, 0] S256x2048.size inb_S256x2048_S256x2048_0_0), w⟩]
      (Rect.unit (s := S256x2048) ![0, 0] S256x2048.size inb_S256x2048_S256x2048_0_0).toLoadRect = w := by
  show arg7.view.readAt (Elt Ideal) (Rect.unit (s := S256x2048) ![0, 0] S256x2048.size inb_S256x2048_S256x2048_0_0).toLoadRect (arg7.view.writes (Elt Ideal) arg7.view.junk _) = _
  rw [View.readAt_eq_ld, View.ld_unit_zero (S := S256x2048) hz2,
    View.read_writes_eq_canon _ _ _ (fun y => ⟨_, List.mem_cons_self, View.mem_set_unit_zero hz2 inb_S256x2048_S256x2048_0_0 y⟩),
    View.canon_cons_unit_zero (S := S256x2048) hz2]

theorem out_A (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec Ideal S256x2048 .bf16) (x1 : Vec Ideal S1x1x2048x1024 .bf16) (x2 : Vec Ideal S1x1x2048x1024 .bf16) (x3 : Vec Ideal S1x1x1024x2048 .bf16) (xt0 : TbBuf0 (F := Ideal) c tbM0_0) (xt1 : TbBuf0 (F := Ideal) c tbM0_1) (hc0 : ∀ j, k0_cond1 i (xt1 j) = 1#1) (hc1 : ∀ j, ¬k0_cond2 i (xt1 j) = 1#1)
    (r : Fin 256) (d : Fin 2048) :
    out0_A_4 c i arg3 harg3 arg4 harg4 arg5 harg5 arg6 harg6 arg7 harg7 x0 x1 x2 x3 xt0 xt1 hc0 hc1 (ix2 r d)
      = ∑ k : Fin 1024, hid x0 x1 x2 r k * x3 (ix4 0 0 k d) := by
  unfold out0_A_4
  rw [View.read_writes_eq_canon _ _ _ (cover0_A_4 c i arg3 harg3 arg4 harg4 arg5 harg5 arg6 harg6 arg7 harg7 x0 x1 x2 x3 xt0 xt1 hc0 hc1)]
  unfold kernelRun0_A
  dsimp only
  sl_unfold_words
  rw [View.canon_cons_unit_zero (S := S256x2048) hz2]
  simp only [View.readAt_eq_ld, harg3.read_unread, harg4.read_unread, harg5.read_unread,
    harg6.read_unread, View.ld_unit_zero (S := S256x2048) hz2]
  rw [cov]
  exact pay_at x0 x1 x2 x3 r d _ _ _ _

theorem out_B (c : Dev nD) (i : grid0.Coords) (arg3 : Memref sig .tc .vmem S256x2048 .bf16) (harg3 : arg3.IsWhole) (arg4 : Memref sig .tc .vmem S1x1x2048x1024 .bf16) (harg4 : arg4.IsWhole) (arg5 : Memref sig .tc .vmem S1x1x2048x1024 .bf16) (harg5 : arg5.IsWhole) (arg6 : Memref sig .tc .vmem S1x1x1024x2048 .bf16) (harg6 : arg6.IsWhole) (arg7 : Memref sig .tc .vmem S256x2048 .f32) (harg7 : arg7.IsWhole)
    (x0 : Vec Ideal S256x2048 .bf16) (x1 : Vec Ideal S1x1x2048x1024 .bf16) (x2 : Vec Ideal S1x1x2048x1024 .bf16) (x3 : Vec Ideal S1x1x1024x2048 .bf16) (xt0 : TbBuf0 (F := Ideal) c tbM0_0) (xt1 : TbBuf0 (F := Ideal) c tbM0_1) (hc0 : ∀ j, ¬k0_cond1 i (xt1 j) = 1#1) (hc1 : ∀ j, k0_cond2 i (xt1 j) = 1#1)
    (y : S256x2048.Idx) :
    out0_B_4 c i arg3 harg3 arg4 harg4 arg5 harg5 arg6 harg6 arg7 harg7 x0 x1 x2 x3 xt0 xt1 hc0 hc1 y = 0 := by
  unfold out0_B_4
  rw [View.read_writes_eq_canon _ _ _ (cover0_B_4 c i arg3 harg3 arg4 harg4 arg5 harg5 arg6 harg6 arg7 harg7 x0 x1 x2 x3 xt0 xt1 hc0 hc1)]
  unfold kernelRun0_B
  dsimp only
  sl_unfold_words
  rw [View.canon_cons_unit_zero (S := S256x2048) hz2]
  pointwise [k0_pay2]

end Cert.Kernel2Ideal.Run
end
-- ==== Proof.ExpertsRead.lean ====
/- The blocks the experts' kernel reads, as entries of its arguments. -/
module

public import proofs.«01_k».proof.Proof.ExpertsOut
public import proofs.«01_k».proof.Proof.ExpertsTable
public import Idealize.ShloMosaic.Lib.Pipeline.ValueKit.Tiles
public import Idealize.ShloMosaic.Lib.Pipeline.Value
public import Idealize.ShloMosaic.Lib.Pointwise

@[expose] public section
set_option maxRecDepth 16384
noncomputable section

open Idealize.ShloMosaic Idealize.ShloMosaic.TcCoe Idealize.SL.Sem
open Idealize.ShloMosaic.Pipeline (Dat)
namespace Cert.Kernel2Ideal.Run
open Cert.Kernel2Ideal Cert.Kernel2Ideal.Gen

/-! ## What the windows find -/

variable (m : (ℓ : Loc nD τ sig) → Buf (Elt Ideal) ℓ) (c : Dev nD)

theorem x_at (R : Fin 40960) (d : Fin 2048) : V m c main_v18 (ix2 R d) = m ((c : Thread nD τ).loc main_arg0) (ix2 R d) := by
  unfold V
  after_reads_at

theorem wg_at (l : Fin 2) (e : Fin 32) (a : Fin 2048) (b : Fin 1024) : V m c main_v0 (ix4 l e a b) = m ((c : Thread nD τ).loc main_arg2) (ix4 l e a b) := by
  unfold V
  after_reads_at

theorem wu_at (l : Fin 2) (e : Fin 32) (a : Fin 2048) (b : Fin 1024) : V m c main_v1 (ix4 l e a b) = m ((c : Thread nD τ).loc main_arg3) (ix4 l e a b) := by
  unfold V
  after_reads_at

theorem wd_at (l : Fin 2) (e : Fin 32) (a : Fin 1024) (b : Fin 2048) : V m c main_v2 (ix4 l e a b) = m ((c : Thread nD τ).loc main_arg4) (ix4 l e a b) := by
  unfold V
  after_reads_at

/-- The expert the first table names for point `t`. -/
def be (t : Fin grid0.N) : Fin 32 :=
  Experts.expert (ends m c) (IntOp.minsi (BitVec.ofNat 32 (grid0.coords t 0).val) (IntOp.subi (ends m c 31) 1#32))

/-- The word the index maps read at a point: the first table's at the point's number. -/
theorem at_word (pf : pre0.Contents (Elt Ideal)) (i : grid0.Coords) (hi : (i 0).val < 160) (r : Rect S160) (h1 : r.shape.numel = 1)
    (hr : ∀ y : r.shape.Idx, (r.emb y 0).val = (i 0).val) :
    (pf.at 0 r h1 : BitVec 32) = pf 0 (ix1 ⟨(i 0).val, hi⟩ : S160.Idx) := by
  unfold Pipeline.Prefetch.Contents.at
  refine congrArg (pf 0) ?_
  funext a
  fin_cases a
  exact Fin.ext (hr _)

theorem word_val (n : ℕ) (h : n < 160) : (Scalar.indexCast (BitVec.ofNat 32 n) : Index).toNat = n := by
  interval_cases n <;> rfl

theorem emb_val (i : grid0.Coords) (hi : (i 0).val < 160) (y) :
    ((Rect.unit (s := S160) (k0_off1 i) S1.size (k0_off1_inb i)).emb y 0).val = (i 0).val := by
  have hy : (y 0).val < 1 := (y 0).isLt
  have h : k0_off1 i 0 = (i 0).val := word_val _ hi
  show k0_off1 i 0 + 1 * (y 0).val = _
  omega

theorem idx1 (pf : pre0.Contents (Elt Ideal)) (i : grid0.Coords) (hi : (i 0).val < 160) :
    cc0_transform_1 k0_off1_inb numel1_S1 pf i = ![0, (pf 0 (ix1 ⟨(i 0).val, hi⟩ : S160.Idx) : BitVec 32).toNat, 0, 0] := by
  exact congrArg (fun w : BitVec 32 => (![0, w.toNat, 0, 0] : Fin 4 → ℕ)) (at_word pf i hi (Rect.unit (s := S160) (k0_off1 i) S1.size (k0_off1_inb i)) numel1_S1 (emb_val i hi))

theorem idx2 (pf : pre0.Contents (Elt Ideal)) (i : grid0.Coords) (hi : (i 0).val < 160) :
    cc0_transform_2 k0_off1_inb numel1_S1 pf i = ![0, (pf 0 (ix1 ⟨(i 0).val, hi⟩ : S160.Idx) : BitVec 32).toNat, 0, 0] := by
  exact congrArg (fun w : BitVec 32 => (![0, w.toNat, 0, 0] : Fin 4 → ℕ)) (at_word pf i hi (Rect.unit (s := S160) (k0_off1 i) S1.size (k0_off1_inb i)) numel1_S1 (emb_val i hi))

theorem idx3 (pf : pre0.Contents (Elt Ideal)) (i : grid0.Coords) (hi : (i 0).val < 160) :
    cc0_transform_3 k0_off1_inb numel1_S1 pf i = ![0, (pf 0 (ix1 ⟨(i 0).val, hi⟩ : S160.Idx) : BitVec 32).toNat, 0, 0] := by
  exact congrArg (fun w : BitVec 32 => (![0, w.toNat, 0, 0] : Fin 4 → ℕ)) (at_word pf i hi (Rect.unit (s := S160) (k0_off1 i) S1.size (k0_off1_inb i)) numel1_S1 (emb_val i hi))

theorem idx0 (i : grid0.Coords) (hi : (i 0).val < 160) : cc0_transform_0 i = ![(i 0).val, 0] := by
  have h : ∀ n, n < 160 → (BitVec.ofNat 32 n).toNat = n := fun n hn => by rw [BitVec.toNat_ofNat]; omega
  unfold cc0_transform_0
  dsimp only
  rw [h _ hi]
  rfl

section reads
variable (a : (pcfg0 (F := Ideal)).Adm) (t : Fin (cfg0 a).N) (hi : (grid0.coords t 0).val < 160)

theorem read0 (A : (⟨S40960x2048, .bf16⟩ : BufTy).Contents (Elt Ideal)) (r : Fin 256) (d : Fin 2048) :
    (((cfg0 a).win 0).blk t).view.read (Elt Ideal) A (ix2 r d) = A (ix2 ⟨256 * (grid0.coords t 0).val + r.val, by omega⟩ d) := by
  show A _ = A _
  refine congrArg A ?_
  funext k
  match k with
  | ⟨0, _⟩ =>
    refine Fin.ext ?_
    show cc0_transform_0 (grid0.coords t) 0 * 256 + 1 * r.val = 256 * (grid0.coords t 0).val + r.val
    rw [idx0 _ hi]
    show (grid0.coords t 0).val * 256 + 1 * r.val = _
    omega
  | ⟨1, _⟩ =>
    refine Fin.ext ?_
    show cc0_transform_0 (grid0.coords t) 1 * 2048 + 1 * d.val = d.val
    rw [idx0 _ hi]
    show 0 * 2048 + 1 * d.val = _
    omega

theorem read1 (A : (⟨S2x32x2048x1024, .bf16⟩ : BufTy).Contents (Elt Ideal)) (e : Fin 32)
    (he : (a.1 0 (ix1 ⟨(grid0.coords t 0).val, hi⟩ : S160.Idx) : BitVec 32).toNat = e.val) (x : Fin 2048) (y : Fin 1024) :
    (((cfg0 a).win 1).blk t).view.read (Elt Ideal) A (ix4 0 0 x y) = A (ix4 0 e x y) := by
  show A _ = A _
  refine congrArg A ?_
  funext k
  match k with
  | ⟨0, _⟩ =>
    refine Fin.ext ?_
    show cc0_transform_1 k0_off1_inb numel1_S1 a.1 (grid0.coords t) 0 * 1 + 1 * 0 = 0
    rw [idx1 _ _ hi]; rfl
  | ⟨1, _⟩ =>
    refine Fin.ext ?_
    show cc0_transform_1 k0_off1_inb numel1_S1 a.1 (grid0.coords t) 1 * 1 + 1 * 0 = e.val
    rw [idx1 _ _ hi, ← he]
    exact (Nat.mul_one _)
  | ⟨2, _⟩ =>
    refine Fin.ext ?_
    show cc0_transform_1 k0_off1_inb numel1_S1 a.1 (grid0.coords t) 2 * 2048 + 1 * x.val = x.val
    rw [idx1 _ _ hi]
    show 0 * 2048 + 1 * x.val = _
    omega
  | ⟨3, _⟩ =>
    refine Fin.ext ?_
    show cc0_transform_1 k0_off1_inb numel1_S1 a.1 (grid0.coords t) 3 * 1024 + 1 * y.val = y.val
    rw [idx1 _ _ hi]
    show 0 * 1024 + 1 * y.val = _
    omega

theorem read2 (A : (⟨S2x32x2048x1024, .bf16⟩ : BufTy).Contents (Elt Ideal)) (e : Fin 32)
    (he : (a.1 0 (ix1 ⟨(grid0.coords t 0).val, hi⟩ : S160.Idx) : BitVec 32).toNat = e.val) (x : Fin 2048) (y : Fin 1024) :
    (((cfg0 a).win 2).blk t).view.read (Elt Ideal) A (ix4 0 0 x y) = A (ix4 0 e x y) := by
  show A _ = A _
  refine congrArg A ?_
  funext k
  match k with
  | ⟨0, _⟩ =>
    refine Fin.ext ?_
    show cc0_transform_2 k0_off1_inb numel1_S1 a.1 (grid0.coords t) 0 * 1 + 1 * 0 = 0
    rw [idx2 _ _ hi]; rfl
  | ⟨1, _⟩ =>
    refine Fin.ext ?_
    show cc0_transform_2 k0_off1_inb numel1_S1 a.1 (grid0.coords t) 1 * 1 + 1 * 0 = e.val
    rw [idx2 _ _ hi, ← he]
    exact (Nat.mul_one _)
  | ⟨2, _⟩ =>
    refine Fin.ext ?_
    show cc0_transform_2 k0_off1_inb numel1_S1 a.1 (grid0.coords t) 2 * 2048 + 1 * x.val = x.val
    rw [idx2 _ _ hi]
    show 0 * 2048 + 1 * x.val = _
    omega
  | ⟨3, _⟩ =>
    refine Fin.ext ?_
    show cc0_transform_2 k0_off1_inb numel1_S1 a.1 (grid0.coords t) 3 * 1024 + 1 * y.val = y.val
    rw [idx2 _ _ hi]
    show 0 * 1024 + 1 * y.val = _
    omega

theorem read3 (A : (⟨S2x32x1024x2048, .bf16⟩ : BufTy).Contents (Elt Ideal)) (e : Fin 32)
    (he : (a.1 0 (ix1 ⟨(grid0.coords t 0).val, hi⟩ : S160.Idx) : BitVec 32).toNat = e.val) (x : Fin 1024) (y : Fin 2048) :
    (((cfg0 a).win 3).blk t).view.read (Elt Ideal) A (ix4 0 0 x y) = A (ix4 0 e x y) := by
  show A _ = A _
  refine congrArg A ?_
  funext k
  match k with
  | ⟨0, _⟩ =>
    refine Fin.ext ?_
    show cc0_transform_3 k0_off1_inb numel1_S1 a.1 (grid0.coords t) 0 * 1 + 1 * 0 = 0
    rw [idx3 _ _ hi]; rfl
  | ⟨1, _⟩ =>
    refine Fin.ext ?_
    show cc0_transform_3 k0_off1_inb numel1_S1 a.1 (grid0.coords t) 1 * 1 + 1 * 0 = e.val
    rw [idx3 _ _ hi, ← he]
    exact (Nat.mul_one _)
  | ⟨2, _⟩ =>
    refine Fin.ext ?_
    show cc0_transform_3 k0_off1_inb numel1_S1 a.1 (grid0.coords t) 2 * 1024 + 1 * x.val = x.val
    rw [idx3 _ _ hi]
    show 0 * 1024 + 1 * x.val = _
    omega
  | ⟨3, _⟩ =>
    refine Fin.ext ?_
    show cc0_transform_3 k0_off1_inb numel1_S1 a.1 (grid0.coords t) 3 * 2048 + 1 * y.val = y.val
    rw [idx3 _ _ hi]
    show 0 * 2048 + 1 * y.val = _
    omega

end reads

section point
variable (t : Fin grid0.N) (hi : (grid0.coords t 0).val < 160)
include hi

omit hi in
theorem be_val : (be m c t).val
    = (Experts.expertOf (ends m c) (IntOp.minsi (BitVec.ofNat 32 (grid0.coords t 0).val) (IntOp.subi (ends m c 31) 1#32))).toNat := by
  unfold be
  exact Experts.expert_val _ _

theorem be_word : (tbl m 0 (ix1 ⟨(grid0.coords t 0).val, hi⟩ : S160.Idx) : BitVec 32).toNat = (be m c t).val := by
  rw [be_val]
  obtain rfl : c = 0 := Subsingleton.elim _ _
  have h := be_at m 0 ⟨(grid0.coords t 0).val, hi⟩
  revert h
  generalize Experts.expertOf _ _ = w
  intro h
  exact congrArg BitVec.toNat h

theorem iblk0_at (r : Fin 256) (d : Fin 2048) :
    iblk m (ok m) c 0 t (ix2 r d) = m ((c : Thread nD τ).loc main_arg0) (ix2 ⟨256 * (grid0.coords t 0).val + r.val, by omega⟩ d) :=
  (read0 (adm m (ok m)) t hi (V m c main_v18) r d).trans (x_at m c _ _)

theorem iblk1_at (x : Fin 2048) (y : Fin 1024) :
    iblk m (ok m) c 1 t (ix4 0 0 x y) = m ((c : Thread nD τ).loc main_arg2) (ix4 0 (be m c t) x y) :=
  (read1 (adm m (ok m)) t hi (V m c main_v0) _ (be_word m c t hi) x y).trans (wg_at m c _ _ _ _)

theorem iblk2_at (x : Fin 2048) (y : Fin 1024) :
    iblk m (ok m) c 2 t (ix4 0 0 x y) = m ((c : Thread nD τ).loc main_arg3) (ix4 0 (be m c t) x y) :=
  (read2 (adm m (ok m)) t hi (V m c main_v1) _ (be_word m c t hi) x y).trans (wu_at m c _ _ _ _)

theorem iblk3_at (x : Fin 1024) (y : Fin 2048) :
    iblk m (ok m) c 3 t (ix4 0 0 x y) = m ((c : Thread nD τ).loc main_arg4) (ix4 0 (be m c t) x y) :=
  (read3 (adm m (ok m)) t hi (V m c main_v2) _ (be_word m c t hi) x y).trans (wd_at m c _ _ _ _)

omit hi in
/-- A point is used where its number is below the last of the words. -/
theorem used_iff : Used m t ↔ (BitVec.ofNat 32 (grid0.coords t 0).val).slt (ends m c 31) = true := by
  obtain rfl : c = 0 := Subsingleton.elim _ _
  have hw : ∀ j : S1.Idx, (tbl m 1 j : BitVec 32) = ends m 0 31 := fun j => by
    rw [S1_idx j (ix1 0)]; exact v3_at m 0
  have hk : ∀ v : BitVec 32, k0_cond1 (grid0.coords t) v = 1#1 ↔ (BitVec.ofNat 32 (grid0.coords t 0).val).slt v = true := fun v => by
    unfold k0_cond1
    simp only [Scalar.cmpi, Scalar.extui, IntOp.cmpi]
    cases (BitVec.ofNat 32 (grid0.coords t 0).val).slt v <;> decide
  constructor
  · intro h
    have h1 := h (ix1 0)
    rw [hw] at h1
    exact (hk _).mp h1
  · intro h j
    rw [hw]
    exact (hk _).mpr h

end point

/-- The arguments' entries: the rows, and the three weights of an expert. -/
def xs (R : Fin 40960) (d : Fin 2048) : EReal := m ((c : Thread nD τ).loc main_arg0) (ix2 R d)
def ws (e : Fin 32) (d : Fin 2048) (k : Fin 1024) : EReal := m ((c : Thread nD τ).loc main_arg2) (ix4 0 e d k)
def us (e : Fin 32) (d : Fin 2048) (k : Fin 1024) : EReal := m ((c : Thread nD τ).loc main_arg3) (ix4 0 e d k)
def ds (e : Fin 32) (k : Fin 1024) (d : Fin 2048) : EReal := m ((c : Thread nD τ).loc main_arg4) (ix4 0 e k d)

/-- Entry `k` of the hidden row of row `R` at expert `e`. -/
def hidden (R : Fin 40960) (e : Fin 32) (k : Fin 1024) : EReal :=
  (∑ d : Fin 2048, xs m c R d * ws m c e d k) * Ideal.logistic (∑ d : Fin 2048, xs m c R d * ws m c e d k)
    * ∑ d : Fin 2048, xs m c R d * us m c e d k

/-- Row `R` of the result at column `d`: the row's expert applied to it, where the row's block is used. -/
def rowVal (R : Fin 40960) (d : Fin 2048) : EReal :=
  if (BitVec.ofNat 32 (R.val / 256)).slt (ends m c 31) = true then
    ∑ k : Fin 1024, hidden m c R (Experts.expert (ends m c) (BitVec.ofNat 32 (R.val / 256))) k
      * ds m c (Experts.expert (ends m c) (BitVec.ofNat 32 (R.val / 256))) k d
  else 0

theorem hid_eq (x0 : Vec Ideal S256x2048 .bf16) (x1 x2 : Vec Ideal S1x1x2048x1024 .bf16) (R : Fin 40960) (e : Fin 32)
    (m : (ℓ : Loc nD τ sig) → Buf (Elt Ideal) ℓ) (c : Dev nD) (r : Fin 256) (k : Fin 1024)
    (h0 : ∀ d, x0 (ix2 r d) = xs m c R d) (h1 : ∀ d, x1 (ix4 0 0 d k) = ws m c e d k) (h2 : ∀ d, x2 (ix4 0 0 d k) = us m c e d k) :
    hid x0 x1 x2 r k = hidden m c R e k := by
  unfold hid hidden
  simp only [h0, h1, h2]

theorem point (t : Fin grid0.N) (i : Fin 160) (hi : (grid0.coords t 0).val = i.val) (r : Fin 256) (d : Fin 2048) :
    outsAt0 m (ok m) c t (ix2 r d) = rowVal m c ⟨256 * i.val + r.val, by omega⟩ d := by
  have hlt : (grid0.coords t 0).val < 160 := hi ▸ i.isLt
  have hR : (256 * i.val + r.val) / 256 = i.val := by omega
  unfold rowVal
  dsimp only
  rw [hR]
  by_cases h : Used m t
  · have hs := (used_iff m c t).mp h
    rw [hi] at hs
    rw [if_pos hs]
    have hbe : be m c t = Experts.expert (ends m c) (BitVec.ofNat 32 i.val) := by
      unfold be
      rw [hi, Experts.min_used i _ hs]
    rw [← hbe]
    refine (congrFun (outsAt0_A m (ok m) c t h) _).trans ((out_A ..).trans ?_)
    refine Finset.sum_congr rfl fun k _ => congrArg₂ (· * ·) ?_ (iblk3_at m c t hlt k d)
    refine hid_eq _ _ _ _ _ _ _ r k (fun d => ?_) (fun d => iblk1_at m c t hlt d k) fun d => iblk2_at m c t hlt d k
    refine (iblk0_at m c t hlt r d).trans ?_
    unfold xs
    simp only [hi]
    rfl
  · have hs := fun e => h ((used_iff m c t).mpr e)
    rw [hi] at hs
    rw [if_neg hs]
    exact (congrFun (outsAt0_B m (ok m) c t h) _).trans (out_B ..)

end Cert.Kernel2Ideal.Run
end
-- ==== Proof.ExpertsRef.lean ====
/- The experts' reference, read at an entry. -/
module

public import proofs.«01_k».proof.Proof.ExpertsCount
public import proofs.«01_k».proof.Proof.Gen.Reference2Ideal.Run
public import Idealize.ShloMosaic.Lib.Pointwise

@[expose] public section
set_option maxRecDepth 16384
noncomputable section

open Idealize.ShloMosaic Idealize.ShloMosaic.TcCoe Idealize.SL.Sem
namespace Cert.Reference2Ideal.Val
open Cert.Reference2Ideal Cert.Reference2Ideal.Gen

theorem clamp (w : BitVec 32) (h : w.toNat < 32) : min w.toInt.toNat 31 = w.toNat := by
  rw [BitVec.toInt_eq_toNat_of_lt (by omega)]
  omega

/-- A gather of whole matrices along the first axis, at an entry. -/
theorem gatherA_at (x : FVec Ideal S32x2048x1024 .f32) (idx : IVec S160x1 32) (i : Fin 160) (d : Fin 2048) (k : Fin 1024)
    (e : Fin 32) (he : (idx (ix2 i 0)).toNat = e.val) :
    Host.gather gather_S32x2048x1024_S160x1_S160x2048x1024_12_0_n_n_0_1_120481024 x idx (ix3 i d k) = x (ix3 e d k) := by
  unfold Host.gather
  refine congrArg x ?_
  funext a
  refine Fin.ext ?_
  have hsi : gather_S32x2048x1024_S160x1_S160x2048x1024_12_0_n_n_0_1_120481024.siIdx (ix3 i d k) ⟨0, by decide⟩ = ix2 i 0 := by
    funext b; refine Fin.ext ?_
    match b with
    | ⟨0, _⟩ => rfl
    | ⟨1, _⟩ => rfl
  match a with
  | ⟨0, _⟩ =>
    show min (idx (gather_S32x2048x1024_S160x1_S160x2048x1024_12_0_n_n_0_1_120481024.siIdx (ix3 i d k) ⟨0, by decide⟩)).toInt.toNat 31 + 0 + 0 = e.val
    rw [hsi, clamp _ (he ▸ e.isLt), he]; rfl
  | ⟨1, _⟩ => show 0 + 0 + d.val = d.val; omega
  | ⟨2, _⟩ => show 0 + 0 + k.val = k.val; omega

theorem gatherB_at (x : FVec Ideal S32x1024x2048 .f32) (idx : IVec S160x1 32) (i : Fin 160) (k : Fin 1024) (d : Fin 2048)
    (e : Fin 32) (he : (idx (ix2 i 0)).toNat = e.val) :
    Host.gather gather_S32x1024x2048_S160x1_S160x1024x2048_12_0_n_n_0_1_110242048 x idx (ix3 i k d) = x (ix3 e k d) := by
  unfold Host.gather
  refine congrArg x ?_
  funext a
  refine Fin.ext ?_
  have hsi : gather_S32x1024x2048_S160x1_S160x1024x2048_12_0_n_n_0_1_110242048.siIdx (ix3 i k d) ⟨0, by decide⟩ = ix2 i 0 := by
    funext b; refine Fin.ext ?_
    match b with
    | ⟨0, _⟩ => rfl
    | ⟨1, _⟩ => rfl
  match a with
  | ⟨0, _⟩ =>
    show min (idx (gather_S32x1024x2048_S160x1_S160x1024x2048_12_0_n_n_0_1_110242048.siIdx (ix3 i k d) ⟨0, by decide⟩)).toInt.toNat 31 + 0 + 0 = e.val
    rw [hsi, clamp _ (he ▸ e.isLt), he]; rfl
  | ⟨1, _⟩ => show 0 + 0 + k.val = k.val; omega
  | ⟨2, _⟩ => show 0 + 0 + d.val = d.val; omega

variable (x1 : IVec S32 32)

/-- The expert of each block, as the reference counts it. -/
def refBe : IVec S160x1 32 :=
  (broadcastInDim S160x1 ![0] bcast_S160_S160x1_0 (minsi (Host.reduce IntOp.addi (extui 32 (cmpi .sle (broadcastInDim S160x32 ![0, 1] bcast_S1x32_S160x32_0_1 (broadcastInDim S1x32 ![1] bcast_S32_S1x32_1 x1)) (broadcastInDim S160x32 ![0, 1] bcast_S160x1_S160x32_0_1 (broadcastInDim S160x1 ![0] bcast_S160_S160x1_0 (iotaInDim S160 32 0)))) natLt_1_32) (constantI S_ 32 0#32) reducesTo_S160x32_S160_d1 h_S_) (broadcastInDim S160 ![] bcast_S_S160 (constantI S_ 32 31#32))))

theorem refBe_at (i : Fin 160) : refBe x1 (ix2 i 0) = Experts.expertOf (fun x => x1 (ix1 x)) (BitVec.ofNat 32 i.val) := by
  unfold Experts.expertOf
  pointwise [refBe]

theorem refBe_val (i : Fin 160) : (refBe x1 (ix2 i 0)).toNat = (Experts.expert (fun x => x1 (ix1 x)) (BitVec.ofNat 32 i.val)).val := by
  rw [refBe_at, Experts.expert_val]

/-- Whether a block is used. -/
def refUsed : IVec S160 1 :=
  (cmpi .slt (iotaInDim S160 32 0) (broadcastInDim S160 ![] bcast_S_S160 (shapeCast _ (extractStridedSlice S1 ![31] x1 slices_S32_S1_31) shapeCasts_S1_S_)))

theorem refUsed_at (i : Fin 160) : refUsed x1 (ix1 i) = IntOp.cmpi .slt (BitVec.ofNat 32 i.val) (x1 (ix1 31)) := by
  pointwise [refUsed]

variable (x0 : FVec Ideal S40960x2048 .f32) (x2 x3 : FVec Ideal S2x32x2048x1024 .f32) (x4 : FVec Ideal S2x32x1024x2048 .f32)

/-- The first layer's weights of each block's expert. -/
def refW (x : FVec Ideal S2x32x2048x1024 .f32) : FVec Ideal S160x2048x1024 .f32 :=
  (Host.gather gather_S32x2048x1024_S160x1_S160x2048x1024_12_0_n_n_0_1_120481024 (shapeCast _ (extractStridedSlice S1x32x2048x1024 ![0, 0, 0, 0] x slices_S2x32x2048x1024_S1x32x2048x1024_0_0_0_0) shapeCasts_S1x32x2048x1024_S32x2048x1024) (refBe x1))

def refD : FVec Ideal S160x1024x2048 .f32 :=
  (Host.gather gather_S32x1024x2048_S160x1_S160x1024x2048_12_0_n_n_0_1_110242048 (shapeCast _ (extractStridedSlice S1x32x1024x2048 ![0, 0, 0, 0] x4 slices_S2x32x1024x2048_S1x32x1024x2048_0_0_0_0) shapeCasts_S1x32x1024x2048_S32x1024x2048) (refBe x1))

/-- The rows against such weights. -/
def refG (x : FVec Ideal S2x32x2048x1024 .f32) : FVec Ideal S160x256x1024 .f32 :=
  (Host.dotGeneral dot_S160x256x2048_S160x2048x1024_S160x256x1024_2_1_1_2_0_0 none (shapeCast _ x0 shapeCasts_S40960x2048_S160x256x2048) (refW x1 x))

/-- The result. -/
def refO : FVec Ideal S40960x2048 .f32 :=
  shapeCast _ (select (broadcastInDim S160x256x2048 ![0, 1, 2] bcast_S160x1x1_S160x256x2048_0_1_2 (broadcastInDim S160x1x1 ![0] bcast_S160_S160x1x1_0 (refUsed x1))) (Host.dotGeneral dot_S160x256x1024_S160x1024x2048_S160x256x2048_2_1_1_2_0_0 none (mulf (mulf (refG x1 x0 x2) (Host.divf (broadcastInDim S160x256x1024 ![] bcast_S_S160x256x1024 (constant (F := Ideal) S_ .f32 0x3F800000#32)) (addf (broadcastInDim S160x256x1024 ![] bcast_S_S160x256x1024 (constant (F := Ideal) S_ .f32 0x3F800000#32)) (Host.exp (Host.negf (refG x1 x0 x2)))))) (refG x1 x0 x3)) (refD x1 x4)) (broadcastInDim S160x256x2048 ![] bcast_S_S160x256x2048 (id (constant (F := Ideal) S_ .f32 0x00000000#32)))) shapeCasts_S160x256x2048_S40960x2048

theorem res_eq (m : (ℓ : Loc nD τ sig) → Buf (Elt Ideal) ℓ) (c : Dev nD) :
    Value.res_main_v31 m c = refO (m ((c.tc : Thread nD τ).loc main_arg1)) (m ((c.tc : Thread nD τ).loc main_arg0)) (m ((c.tc : Thread nD τ).loc main_arg2))
      (m ((c.tc : Thread nD τ).loc main_arg3)) (m ((c.tc : Thread nD τ).loc main_arg4)) := by
  unfold Value.res_main_v31 refO refG refD refW refUsed refBe
  rfl

theorem W_at (x : FVec Ideal S2x32x2048x1024 .f32) (i : Fin 160) (d : Fin 2048) (k : Fin 1024) :
    refW x1 x (ix3 i d k) = x (ix4 0 (Experts.expert (fun x => x1 (ix1 x)) (BitVec.ofNat 32 i.val)) d k) := by
  unfold refW
  rw [gatherA_at _ _ i d k _ (refBe_val x1 i)]
  pointwise

theorem D_at (i : Fin 160) (k : Fin 1024) (d : Fin 2048) :
    refD x1 x4 (ix3 i k d) = x4 (ix4 0 (Experts.expert (fun x => x1 (ix1 x)) (BitVec.ofNat 32 i.val)) k d) := by
  unfold refD
  rw [gatherB_at _ _ i k d _ (refBe_val x1 i)]
  pointwise

theorem G_at (x : FVec Ideal S2x32x2048x1024 .f32) (i : Fin 160) (r : Fin 256) (k : Fin 1024) :
    refG x1 x0 x (ix3 i r k) = (∑ d : Fin 2048, x0 (ix2 ⟨i.val * 256 + r.val, by omega⟩ d)
      * x (ix4 0 (Experts.expert (fun x => x1 (ix1 x)) (BitVec.ofNat 32 i.val)) d k) : EReal) := by
  pointwise [refG, W_at]

/-- Entry `k` of the hidden row `r` of block `i`. -/
def hid (i : Fin 160) (r : Fin 256) (k : Fin 1024) : EReal :=
  refG x1 x0 x2 (ix3 i r k) * Ideal.logistic (refG x1 x0 x2 (ix3 i r k)) * refG x1 x0 x3 (ix3 i r k)

theorem zero_at (j : S_.Idx) : (id (constant (F := Ideal) S_ .f32 0x00000000#32) : FVec Ideal S_ .f32) j = (0 : EReal) := by
  show Ideal.ofBits .f32 0x00000000#32 = 0
  simp [Ideal.ofBits, Ideal.ieee]

theorem O_at (R : Fin 40960) (d : Fin 2048) :
    refO x1 x0 x2 x3 x4 (ix2 R d) = if (BitVec.ofNat 32 (R.val / 256)).slt (x1 (ix1 31)) = true then
      ∑ k : Fin 1024, hid x1 x0 x2 x3 ⟨R.val / 256, by omega⟩ ⟨R.val % 256, by omega⟩ k
        * x4 (ix4 0 (Experts.expert (fun x => x1 (ix1 x)) (BitVec.ofNat 32 (R.val / 256))) k d) else (0 : EReal) := by
  pointwise [refO, D_at, refUsed_at]
  rw [zero_at]
  unfold hid
  cases h : (BitVec.ofNat 32 (R.val / 256)).slt (x1 (ix1 31))
  · have h' : IntOp.cmpi .slt (BitVec.ofNat 32 (R.val / 256)) (x1 (ix1 31)) = 0#1 := by
      unfold IntOp.cmpi
      dsimp only
      rw [h]; rfl
    rw [h', if_neg (by decide)]
    rfl
  · have h' : IntOp.cmpi .slt (BitVec.ofNat 32 (R.val / 256)) (x1 (ix1 31)) = 1#1 := by
      unfold IntOp.cmpi
      dsimp only
      rw [h]; rfl
    rw [h', if_pos rfl]
    rfl

end Cert.Reference2Ideal.Val
end
-- ==== Proof.ExpertsArray.lean ====
/- The experts' kernel's result as one function of its arguments, and that the reference's is the same. -/
module

public import proofs.«01_k».proof.Proof.ExpertsRead
public import proofs.«01_k».proof.Proof.ExpertsRef
public import Idealize.ShloMosaic.Lib.Pipeline.ValueKit.Geometry

@[expose] public section
set_option maxRecDepth 16384
noncomputable section

open Idealize.ShloMosaic Idealize.ShloMosaic.TcCoe Idealize.SL.Sem
open Idealize.ShloMosaic.Pipeline (Dat)
namespace Cert.Kernel2Ideal.Run
open Cert.Kernel2Ideal Cert.Kernel2Ideal.Gen

theorem coords_val : ∀ t : Fin grid0.N, (grid0.coords t 0).val = t.val := by decide +kernel

theorem idx4 (i : grid0.Coords) (hi : (i 0).val < 160) : cc0_transform_4 i = ![(i 0).val, 0] := by
  have h : ∀ n, n < 160 → (BitVec.ofNat 32 n).toNat = n := fun n hn => by rw [BitVec.toNat_ofNat]; omega
  unfold cc0_transform_4
  dsimp only
  rw [h _ hi]
  rfl

/-- Where point `t` writes. -/
theorem emb4 (a : (pcfg0 (F := Ideal)).Adm) (t : Fin (cfg0 a).N) (hi : (grid0.coords t 0).val < 160) (r : Fin 256) (d : Fin 2048) :
    (((cfg0 a).win 4).blk t).view.emb (ix2 r d) = (ix2 ⟨256 * (grid0.coords t 0).val + r.val, by omega⟩ d : S40960x2048.Idx) := by
  funext k
  match k with
  | ⟨0, _⟩ =>
    refine Fin.ext ?_
    show cc0_transform_4 (grid0.coords t) 0 * 256 + 1 * r.val = 256 * (grid0.coords t 0).val + r.val
    rw [idx4 _ hi]
    show (grid0.coords t 0).val * 256 + 1 * r.val = _
    omega
  | ⟨1, _⟩ =>
    refine Fin.ext ?_
    show cc0_transform_4 (grid0.coords t) 1 * 2048 + 1 * d.val = d.val
    rw [idx4 _ hi]
    show 0 * 2048 + 1 * d.val = _
    omega

theorem cover4 (a : (pcfg0 (F := Ideal)).Adm) (j : S40960x2048.Idx) :
    ∃ t : Fin (cfg0 a).N, ((cfg0 a).win 4).flush t = true ∧ j ∈ (((cfg0 a).win 4).blk t).view.set := by
  obtain ⟨R, d, rfl⟩ : ∃ (R : Fin 40960) (d : Fin 2048), j = ix2 R d := ⟨j 0, j 1, by funext a; fin_cases a <;> rfl⟩
  have hN : R.val / 256 < grid0.N := by
    have : grid0.N = 160 := by decide
    omega
  have ht : (grid0.coords ⟨R.val / 256, hN⟩ 0).val = R.val / 256 := coords_val _
  refine ⟨⟨R.val / 256, hN⟩, flush0_4 a _, ?_⟩
  have h := emb4 a ⟨R.val / 256, hN⟩ (by rw [ht]; omega) ⟨R.val % 256, by omega⟩ d
  have hR : (⟨256 * (grid0.coords ⟨R.val / 256, hN⟩ 0).val + R.val % 256, by rw [ht]; omega⟩ : Fin 40960) = R := Fin.ext (by
    show 256 * (grid0.coords ⟨R.val / 256, hN⟩ 0).val + R.val % 256 = R.val
    rw [ht]; omega)
  have h' := h.trans (congrArg (fun R => ix2 R d) hR)
  rw [← h']
  exact View.emb_mem_set _ _

theorem two (y : S256x2048.Idx) : ∃ (r : Fin 256) (d : Fin 2048), y = ix2 r d := ⟨y 0, y 1, by funext a; fin_cases a <;> rfl⟩

variable (m : (ℓ : Loc nD τ sig) → Buf (Elt Ideal) ℓ) (c : Dev nD)

/-- The reference's result, of the kernel's arguments. -/
def goal : FVec Ideal S40960x2048 .f32 :=
  Cert.Reference2Ideal.Val.refO (m ((c : Thread nD τ).loc main_arg1)) (m ((c : Thread nD τ).loc main_arg0)) (m ((c : Thread nD τ).loc main_arg2))
    (m ((c : Thread nD τ).loc main_arg3)) (m ((c : Thread nD τ).loc main_arg4))

theorem dot_eq (R : Fin 40960) (k : Fin 1024) (x : FVec Ideal S2x32x2048x1024 .f32) (w : Fin 2048 → EReal)
    (hw : ∀ d, x (ix4 0 (Experts.expert (ends m c) (BitVec.ofNat 32 (R.val / 256))) d k) = w d) :
    Cert.Reference2Ideal.Val.refG (m ((c : Thread nD τ).loc main_arg1)) (m ((c : Thread nD τ).loc main_arg0)) x
      (ix3 ⟨R.val / 256, by omega⟩ ⟨R.val % 256, by omega⟩ k) = ∑ d, xs m c R d * w d := by
  refine (Cert.Reference2Ideal.Val.G_at ..).trans ?_
  have hR : (⟨R.val / 256 * 256 + R.val % 256, by omega⟩ : Fin 40960) = R := Fin.ext (by dsimp only; omega)
  refine Finset.sum_congr rfl fun d _ => ?_
  dsimp only
  rw [hR]
  exact congrArg (fun y : EReal => xs m c R d * y) (hw d)

theorem goal_at (R : Fin 40960) (d : Fin 2048) : goal m c (ix2 R d) = rowVal m c R d := by
  unfold goal rowVal
  refine (Cert.Reference2Ideal.Val.O_at ..).trans ?_
  refine if_congr Iff.rfl (Finset.sum_congr rfl fun k _ => ?_) rfl
  refine congrArg₂ (fun u v : EReal => u * v) ?_ rfl
  unfold Cert.Reference2Ideal.Val.hid hidden
  rw [dot_eq m c R k _ (fun d => ws m c _ d k) fun d => rfl, dot_eq m c R k _ (fun d => us m c _ d k) fun d => rfl]

theorem array_eq : (dats m (ok m) 0 c).arrAt 4 (cfgM m (ok m)).N = goal m c := by
  refine (dats m (ok m) 0 c).arrAt_eq_of_emb 4 _ (fun t hf y => ?_) fun j => cover4 (adm m (ok m)) j
  have h : (dats m (ok m) 0 c).after 4 t = outsAt0 m (ok m) c t := after0_4 m (ok m) c t
  have hi : (grid0.coords t 0).val < 160 := (grid0.coords t 0).isLt
  obtain ⟨r, d, rfl⟩ := two y
  have he := emb4 (adm m (ok m)) t hi r d
  refine Eq.trans ?_ (congrArg (goal m c) he).symm
  rw [goal_at]
  refine Eq.trans ?_ (point m c t ⟨_, hi⟩ rfl r d)
  exact congrFun h _

/-- The run, its result named. -/
theorem run_value (g : Dev nD → PrngReg) : θ_run defs (onTc (τ := τ) (main (F := Ideal))) ⟨m, fun _ => 0, g⟩ fun r => ∀ c : Dev nD,
      r.2.mem ((c : Thread nD τ).loc main_v19) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h.1 c).1 4 |>.trans (array_eq m c), h.2 c⟩)
    (θ_run_and (run_main m g (ok m)) (unchanged m g (ok m)))

end Cert.Kernel2Ideal.Run
end
-- ==== Proof.ExpertsText.lean ====
/- The idealized experts' program has the kernel's own text: it is the same program over any float values, so that one
   run serves both. -/
module

public import proofs.«01_k».proof.Proof.Gen.Kernel2
public import proofs.«01_k».proof.Proof.Gen.Kernel2.Launch
public import proofs.«01_k».proof.Proof.Gen.Kernel2Ideal
public import proofs.«01_k».proof.Proof.Gen.Kernel2Ideal.Launch

@[expose] public section

open Idealize.ShloMosaic Idealize.SL.Sem
namespace Cert.ExpertsText
variable {F : FTy → Type} [FloatOps F]

theorem body_eq : @Cert.Kernel2.defs₀ F _ _ = @Cert.Kernel2Ideal.defs₀ F _ _ := by
  refine congrArg Defs.onTc ?_
  funext l x
  match l, x with
  | ⟨0, _⟩, (t, s) => rfl

theorem defs_eq : @Cert.Kernel2.defs F _ _ = @Cert.Kernel2Ideal.defs F _ _ := by
  unfold Cert.Kernel2.defs Cert.Kernel2Ideal.defs
  exact congrArg (Pipeline.defs (Cert.Kernel2Ideal.pcfgs (F := F))) body_eq

theorem host_eq : @Cert.Kernel2.Gen.hostOps0 F _ = @Cert.Kernel2Ideal.Gen.hostOps0 F _ := rfl

theorem main_eq : @Cert.Kernel2.main F _ _ = @Cert.Kernel2Ideal.main F _ _ := by
  funext c
  refine (Cert.Kernel2.Gen.main_chain c).trans (Eq.trans ?_ (Cert.Kernel2Ideal.Gen.main_chain c).symm)
  exact congrArg (fun l => Pipeline.chain [StableHlo.seq l, Prog.lift (.customCall (Pipeline.entry 0) ())]) host_eq

end Cert.ExpertsText
-- ==== Proof.ExpertsClaims.lean ====
/- The claims about the experts. -/
module

public import proofs.«01_k».proof.Defs
public import proofs.«01_k».proof.Proof.ExpertsArray
public import proofs.«01_k».proof.Proof.ExpertsText

@[expose] public section
noncomputable section

namespace Cert.Proof.ExpertsClaims
open Idealize.ShloMosaic Idealize.SL.Sem

theorem kernel : Cert.quiescent_Kernel2 := fun m ρ _ => by
  have h := Cert.Kernel2Ideal.Run.frame (F := Bits) m ρ (Cert.Kernel2Ideal.Run.ok m)
  rw [← Cert.ExpertsText.defs_eq, ← Cert.ExpertsText.main_eq] at h
  exact h

theorem kernelIdeal : Cert.quiescent_Kernel2Ideal := fun m ρ _ => Cert.Kernel2Ideal.Run.frame m ρ (Cert.Kernel2Ideal.Run.ok m)

theorem referenceIdeal : Cert.quiescent_Reference2Ideal := fun m ρ _ =>
  (θ_run _ _ _).mono (fun r h => ⟨fun c => (h c).2, sem_eq_zero_of_no_sems (by decide) r.2⟩) (Cert.Reference2Ideal.Value.run m ρ)

theorem preserves : Cert.preserves_Kernel2_Kernel2Ideal := trivial

/-- The kernel's result is the reference's at the same arguments. -/
theorem algebraic : Cert.algebraic_Kernel2Ideal_Reference2Ideal := by
  intro m g m' g' _ ha
  refine ⟨fun c => Cert.Kernel2Ideal.Run.goal m c, Cert.Kernel2Ideal.Run.run_value m g, ?_⟩
  refine (θ_run _ _ _).mono (fun r h c => ⟨(h c).1.trans ?_, (h c).2⟩) (Cert.Reference2Ideal.Value.run m' g')
  obtain ⟨h0, h1, h2, h3, h4⟩ := ha c
  rw [Cert.Reference2Ideal.Val.res_eq m' c, h0, h1, h2, h3, h4]
  rfl

end Cert.Proof.ExpertsClaims

end
-- ==== Proof.Proj.lean ====
/- The projection out of an attention, with the residual sum: what the kernel writes is what its reference computes,
   entry by entry. -/
module

public import proofs.«01_k».proof.Proof.Gen.Kernel3Ideal.Value
public import proofs.«01_k».proof.Proof.Gen.Reference3Ideal
public import Idealize.ShloMosaic.Lib.Pointwise
public import Idealize.ShloMosaic.Lib.Pipeline.ValueKit
public import Idealize.ShloMosaic.Lib.StableHlo.ReadAt

@[expose] public section
set_option maxRecDepth 16384
noncomputable section

open Idealize.ShloMosaic Idealize.ShloMosaic.TcCoe Idealize.SL.Sem
namespace Cert.Reference3Ideal.Val
open Cert.Reference3Ideal Cert.Reference3Ideal.Gen

variable (x o : FVec Ideal S8x2048x2048 .f32) (w : FVec Ideal S2048x2048 .f32)

/-- The result. -/
def refO : FVec Ideal S16384x2048 .f32 :=
  shapeCast _ (addf x (Host.dotGeneral dot_S8x2048x2048_S2048x2048_S8x2048x2048_2_0_01_1_n_n none o w)) shapeCasts_S8x2048x2048_S16384x2048

theorem O_at (R : Fin 16384) (d : Fin 2048) :
    refO x o w (ix2 R d) = (x (ix3 ⟨R.val / 2048, by omega⟩ ⟨R.val % 2048, by omega⟩ d)
      + ∑ k : Fin 2048, o (ix3 ⟨R.val / 2048, by omega⟩ ⟨R.val % 2048, by omega⟩ k) * w (ix2 k d) : EReal) := by
  pointwise [refO]

end Cert.Reference3Ideal.Val

namespace Cert.Kernel3Ideal.Val
open Cert.Kernel3Ideal Cert.Kernel3Ideal.Gen

theorem hz : (![0, 0] : Fin 2 → ℕ) = fun _ => 0 := by decide

theorem pay_at (x : Vec Ideal S1024x1024 .f32) (o : Vec Ideal S1024x2048 .bf16) (w : Vec Ideal S2048x1024 .bf16) (y e : Fin 1024) :
    k0_pay1 x o w (ix2 y e) = (x (ix2 y e) + ∑ k : Fin 2048, o (ix2 y k) * w (ix2 k e) : EReal) := by
  pointwise [k0_pay1]

theorem out_eq (o : Vec Ideal S1024x2048 .bf16) (w : Vec Ideal S2048x1024 .bf16) (x : Vec Ideal S1024x1024 .f32) :
    out0_3 o w x = k0_pay1 x o w := by
  unfold out0_3
  rw [View.canon_cons_unit_zero (S := S1024x1024) hz, View.ld_unit_zero (S := S1024x1024) hz, View.ld_unit_zero (S := S1024x2048) hz,
    View.ld_unit_zero (S := S2048x1024) hz]

variable (m : (ℓ : Loc nD τ sig) → Buf (Elt Ideal) ℓ) (c : Dev nD)

theorem o_at (R : Fin 16384) (k : Fin 2048) :
    V m c main_v1 (ix2 R k) = m ((c : Thread nD τ).loc main_arg1) (ix3 ⟨R.val / 2048, by omega⟩ ⟨R.val % 2048, by omega⟩ k) := by
  unfold V
  after_reads_at

theorem x_at (R : Fin 16384) (d : Fin 2048) :
    V m c main_v2 (ix2 R d) = m ((c : Thread nD τ).loc main_arg0) (ix3 ⟨R.val / 2048, by omega⟩ ⟨R.val % 2048, by omega⟩ d) := by
  unfold V
  after_reads_at

theorem w_at (k d : Fin 2048) : V m c main_v3 (ix2 k d) = m ((c : Thread nD τ).loc main_arg2) (ix2 k d) := by
  unfold V
  after_reads_at

theorem idx : ∀ t : Fin cfg0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] :=
  (by decide +kernel : ∀ t : Fin grid0.N, _)

/-- The array the kernel leaves: the reference's result on the same arguments. -/
def goal : FVec Ideal S16384x2048 .f32 :=
  Cert.Reference3Ideal.Val.refO (m ((c : Thread nD τ).loc main_arg0)) (m ((c : Thread nD τ).loc main_arg1)) (m ((c : Thread nD τ).loc main_arg2))

/-- What the point in row `i` and column `j` of the grid writes. -/
theorem point (t : Fin cfg0.N) (i : Fin 16) (j : Fin 2) (hi : (grid0.coords t 0).val = i.val) (hj : (grid0.coords t 1).val = j.val)
    (y e : Fin 1024) :
    out0_3 (iblk m c 0 t) (iblk m c 1 t) (iblk m c 2 t) (ix2 y e)
      = goal m c (ix2 ⟨1024 * i.val + y.val, by omega⟩ ⟨1024 * j.val + e.val, by omega⟩) := by
  have hx : iblk m c 2 t (ix2 y e) = V m c main_v2 (ix2 ⟨1024 * i.val + y.val, by omega⟩ ⟨1024 * j.val + e.val, by omega⟩) := by
    blk_ext [iblk, idx t]
  have ho : ∀ k : Fin 2048, iblk m c 0 t (ix2 y k) = V m c main_v1 (ix2 ⟨1024 * i.val + y.val, by omega⟩ k) := fun k => by
    blk_ext [iblk, idx t]
  have hw : ∀ k : Fin 2048, iblk m c 1 t (ix2 k e) = V m c main_v3 (ix2 k ⟨1024 * j.val + e.val, by omega⟩) := fun k => by
    blk_ext [iblk, idx t]
  refine (congrFun (out_eq ..) _).trans ((pay_at _ _ _ y e).trans (Eq.trans ?_ (Cert.Reference3Ideal.Val.O_at _ _ _ _ _).symm))
  refine congrArg₂ (fun a b : EReal => a + b) (hx.trans (x_at m c _ _)) (Finset.sum_congr rfl fun k _ => ?_)
  exact congrArg₂ (fun a b : EReal => a * b) ((ho k).trans (o_at m c _ _)) ((hw k).trans (w_at m c _ _))

theorem array_eq : (dats m 0 c).arrAt 3 cfg0.N = goal m c := by
  refine (dats m 0 c).arrAt_eq_of_covers 3 _ (by decide +kernel) fun t hf y => ?_
  have h := after0_3 m c t
  blk_simp
  rw [h]
  have hi := (grid0.coords t 0).isLt
  have hj := (grid0.coords t 1).isLt
  change _ < 16 at hi
  change _ < 2 at hj
  idx_vars y
  refine (point m c t ⟨_, hi⟩ ⟨_, hj⟩ rfl rfl _ _).trans ?_
  refine congrArg _ ?_
  blk_ext [idx t]

end Cert.Kernel3Ideal.Val
end
-- ==== Proof.ProjClaims.lean ====
/- The claims about the projection out of an attention. -/
module

public import proofs.«01_k».proof.Defs
public import proofs.«01_k».proof.Proof.Proj
public import proofs.«01_k».proof.Proof.Gen.Kernel3
public import proofs.«01_k».proof.Proof.Gen.Kernel3.Frame
public import proofs.«01_k».proof.Proof.Gen.Kernel3Ideal.Frame
public import proofs.«01_k».proof.Proof.Gen.Reference3Ideal.Run

@[expose] public section
noncomputable section

namespace Cert.Proof.ProjClaims
open Idealize.ShloMosaic Idealize.SL.Sem

theorem kernel : Cert.quiescent_Kernel3 := fun m ρ _ => Cert.Kernel3.Gen.frame m ρ

theorem kernelIdeal : Cert.quiescent_Kernel3Ideal := fun m ρ _ => Cert.Kernel3Ideal.Gen.frame m ρ

theorem referenceIdeal : Cert.quiescent_Reference3Ideal := fun m ρ _ =>
  (θ_run _ _ _).mono (fun r h => ⟨fun c => (h c).2, sem_eq_zero_of_no_sems (by decide) r.2⟩) (Cert.Reference3Ideal.Value.run m ρ)

theorem preserves : Cert.preserves_Kernel3_Kernel3Ideal := trivial

/-- The kernel's result is the reference's at the same arguments. -/
theorem algebraic : Cert.algebraic_Kernel3Ideal_Reference3Ideal := by
  intro m g m' g' _ ha
  refine ⟨fun c => Cert.Kernel3Ideal.Val.goal m c, ?_, ?_⟩
  · exact (θ_run _ _ _).mono (fun r h c => ⟨(h c).1.trans (Cert.Kernel3Ideal.Val.array_eq m c), (h c).2⟩)
      (Cert.Kernel3Ideal.Value.run_blocks m g)
  · refine (θ_run _ _ _).mono (fun r h c => ⟨(h c).1.trans ?_, (h c).2⟩) (Cert.Reference3Ideal.Value.run m' g')
    obtain ⟨h0, h1, h2⟩ := ha c
    rw [h0, h1, h2]
    rfl

end Cert.Proof.ProjClaims

end
-- ==== Proof.Queries.lean ====
/- The queries of the forgetting attention, projected out of the normalised rows: what the kernel writes is what its
   reference computes, entry by entry. -/
module

public import proofs.«01_k».proof.Proof.Gen.Kernel4Ideal.Value
public import proofs.«01_k».proof.Proof.Gen.Reference4Ideal
public import Idealize.ShloMosaic.Lib.Pointwise
public import Idealize.ShloMosaic.Lib.Pipeline.Value
public import Idealize.ShloMosaic.Lib.Pipeline.ValueKit
public import Idealize.ShloMosaic.Lib.Pipeline.ValueKit.Tiles
public import Idealize.ShloMosaic.Lib.StableHlo.ReadAt
public import Idealize.ShloMosaic.Lib.Tactic

@[expose] public section
set_option maxRecDepth 16384
noncomputable section

open Idealize.ShloMosaic Idealize.ShloMosaic.TcCoe Idealize.SL.Sem
namespace Cert.Reference4Ideal.Val
open Cert.Reference4Ideal Cert.Reference4Ideal.Gen

variable (x : FVec Ideal S8x2048x2048 .f32) (g : FVec Ideal S2048 .f32) (w : FVec Ideal S2048x2048 .f32)

/-- Entry `d` of a row divided by its root mean square and scaled by the gain. -/
def nrm (x g : Fin 2048 → EReal) (d : Fin 2048) : EReal :=
  x d * Ideal.rsqrt (Ideal.div (∑ e : Fin 2048, x e * x e) (Ideal.ofBits .f32 0x45000000#32) + Ideal.ofBits .f32 0x358637BD#32) * g d

/-- The normalised rows. -/
def refH : FVec Ideal S8x2048x2048 .f32 :=
  mulf (mulf x (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf x x) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 g))

/-- The result. -/
def refO : FVec Ideal S16x16384x128 .bf16 :=
  truncf .bf16 (transpose S16x16384x128 [1, 0, 2] (mulf (shapeCast _ (Host.dotGeneral dot_S8x2048x2048_S2048x2048_S8x2048x2048_2_0_01_1_n_n none (refH x g) w) shapeCasts_S8x2048x2048_S16384x16x128) (broadcastInDim S16384x16x128 ![] bcast_S_S16384x16x128 (constant S_ .f32 0x3DB504F3#32))) transposes_S16384x16x128_S16x16384x128_1_0_2) bitsLt_bf16_f32

theorem H_at (b : Fin 8) (s d : Fin 2048) :
    refH x g (ix3 b s d) = nrm (fun e => x (ix3 b s e)) (fun e => g (ix1 e)) d := by
  unfold nrm
  pointwise [refH]

theorem O_at (h : Fin 16) (R : Fin 16384) (e : Fin 128) :
    refO x g w (ix3 h R e) = ((∑ k : Fin 2048, nrm (fun d => x (ix3 ⟨R.val / 2048, by omega⟩ ⟨R.val % 2048, by omega⟩ d)) (fun d => g (ix1 d)) k
      * w (ix2 k ⟨h.val * 128 + e.val, by omega⟩)) * Ideal.ofBits .f32 0x3DB504F3#32 : EReal) := by
  simp only [← H_at]
  pointwise [refO]

end Cert.Reference4Ideal.Val

namespace Cert.Kernel4Ideal.Val
open Cert.Kernel4Ideal Cert.Kernel4Ideal.Gen
open Cert.Reference4Ideal.Val (nrm)

theorem hz : (![0, 0] : Fin 2 → ℕ) = fun _ => 0 := by decide

theorem pay5_at (x : Vec Ideal S128x2048 .f32) (g : Vec Ideal S1x2048 .f32) (y : Fin 128) (d : Fin 2048) :
    k0_pay5 x g (ix2 y d) = nrm (fun e => x (ix2 y e)) (fun e => g (ix2 0 e)) d := by
  unfold nrm
  pointwise [k0_pay5]

/-- The product with the weights, scaled. -/
def prod (h : Vec Ideal S1024x2048 .bf16) (w : Vec Ideal S2048x1024 .bf16) (y e : Fin 1024) : EReal :=
  (∑ k : Fin 2048, (h (ix2 y k) : EReal) * w (ix2 k e)) * Ideal.ofBits .f32 0x3DB504F3#32

theorem pay6_at (i : grid0.Coords) (h : Vec Ideal S1024x2048 .bf16) (w : Vec Ideal S2048x1024 .bf16) (y e : Fin 1024) :
    k0_pay6 i h w (ix2 y e) = prod h w y e := by
  have hs : ∀ j : Fin 2, Scalar.cmpi .slt (BitVec.ofNat 32 j.val) 2#32 = 1#1 := by decide +kernel
  have h1 : Scalar.cmpi .slt (BitVec.ofNat 32 (i 1).val) 2#32 = 1#1 := hs (i 1)
  unfold prod
  pointwise [k0_pay6]
  rw [h1]
  rfl

/-- The normalised rows of a block. -/
def rows (x : Vec Ideal S1024x2048 .f32) (g : Vec Ideal S1x2048 .f32) : Vec Ideal S1024x2048 .bf16 :=
  fun j => nrm (fun e => x (ix2 (j 0) e)) (fun e => g (ix2 0 e)) (j 1)

section Body

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S8x1024x128 .bf16) (harg5 : arg5.IsWhole) (arg6 : Memref sig .tc .vmem S1024x2048 .bf16) (harg6 : arg6.IsWhole)

theorem off1 : ∀ (k : Fin k0_t1_loop.trips), k0_off1 k = ![128 * k.val, 0] := by
  intro k
  have hk : k.val < 8 := Nat.lt_of_lt_of_le k.isLt k0_t1_abs.2.1
  unfold k0_off1
  obtain ⟨k, hk'⟩ := k
  dsimp only at hk ⊢
  clear hk'
  interval_cases k <;> rfl

/-- One trip normalises 128 rows. -/
theorem trip (hc : k0_cond1 i = 1#1) (X2 : BufTy.Contents (Elt Ideal) arg2.view.ty) (X3 : BufTy.Contents (Elt Ideal) arg3.view.ty) (k : Fin k0_t1_loop.trips) :
    tripL_k0_t1 (F := Ideal) Variants.none c none i arg2 harg2 arg3 harg3 arg4 harg4 arg5 harg5 arg6 harg6 hc X2 X3 k
      = [⟨Rect.unit (s := S1024x2048) (k0_off1 k) S128x2048.size (k0_off1_inb i k hc),
          k0_pay5 (View.readAt (Elt Ideal) arg2.view (Rect.unit (s := S1024x2048) (k0_off1 k) S128x2048.size (k0_off1_inb i k hc)).toLoadRect X2)
            (View.readAt (Elt Ideal) arg3.view (Rect.unit (s := S1x2048) ![0, 0] S1x2048.size inb_S1x2048_S1x2048_0_0).toLoadRect X3)⟩] := by
  unfold tripL_k0_t1 trip_k0_t1
  dsimp only

/-- Every piece the loop writes is a block of the normalised rows. -/
theorem pieces (hc : k0_cond1 i = 1#1) (x : Vec Ideal S1024x2048 .f32) (g : Vec Ideal S1x2048 .f32) (n : ℕ) (hn : n ≤ k0_t1_loop.trips) :
    ∀ p ∈ pb_k0_t1 (F := Ideal) Variants.none c none i arg2 harg2 arg3 harg3 arg4 harg4 arg5 harg5 arg6 harg6 hc (harg2.unread x) (harg3.unread g) n,
      ∀ y, p.2 y = rows x g (p.1.emb y) := by
  induction n with
  | zero => intro p hp; exact absurd hp List.not_mem_nil
  | succ n ih =>
    rw [show (n + 1) = (⟨n, hn⟩ : Fin k0_t1_loop.trips).val + 1 from rfl, pb_k0_t1_succ, trip]
    intro p hp
    rcases List.mem_append.mp hp with hp | hp
    · rw [List.mem_singleton] at hp
      subst hp
      intro y
      simp only [View.readAt_eq_ld, harg2.read_unread, harg3.read_unread, View.ld_unit_zero (S := S1x2048) hz]
      idx_vars y
      refine (pay5_at _ _ _ _).trans ?_
      unfold rows
      have h1 : ∀ (a : Fin 128) (d : Fin 2048),
          (Rect.unit (s := S1024x2048) (k0_off1 ⟨n, hn⟩) S128x2048.size (k0_off1_inb i ⟨n, hn⟩ hc)).emb (ix2 a d) 1 = d := fun a d =>
        Fin.ext (by show k0_off1 ⟨n, hn⟩ 1 + 1 * d.val = d.val; rw [off1]; show 0 + 1 * d.val = d.val; omega)
      refine congrArg₂ (fun u v => nrm u (fun e => g (ix2 0 e)) v) (funext fun e => ?_) (h1 _ _).symm
      refine congrArg x (funext fun a => ?_)
      match a with
      | ⟨0, _⟩ => rfl
      | ⟨1, _⟩ => exact h1 _ _
    · exact ih (Nat.le_of_succ_le hn) p hp

/-- The trips together write every row. -/
theorem covered (hc0 : cond0_0 i) (x : Vec Ideal S1024x2048 .f32) (g : Vec Ideal S1x2048 .f32) (y : S1024x2048.Idx) :
    ∃ p ∈ pb_k0_t1 (F := Ideal) Variants.none c none i arg2 harg2 arg3 harg3 arg4 harg4 arg5 harg5 arg6 harg6 hc0 (harg2.unread x) (harg3.unread g) k0_t1_loop.trips,
      y ∈ p.1.set := by
  have h := scover0_A_0 (F := Ideal) c i arg2 harg2 arg3 harg3 arg4 harg4 arg5 harg5 arg6 harg6 hc0 x g (fun _ => 0) y
  unfold kernelRun0_A at h
  dsimp only at h
  exact h

theorem canon_rows (hc0 : cond0_0 i) (x : Vec Ideal S1024x2048 .f32) (g : Vec Ideal S1x2048 .f32) :
    View.canon (pb_k0_t1 (F := Ideal) Variants.none c none i arg2 harg2 arg3 harg3 arg4 harg4 arg5 harg5 arg6 harg6 hc0 (harg2.unread x) (harg3.unread g) k0_t1_loop.trips)
      = rows x g :=
  funext fun y => View.canon_apply_of_pieces (rows x g) _ (pieces c i arg2 harg2 arg3 harg3 arg4 harg4 arg5 harg5 arg6 harg6 hc0 x g _ le_rfl) y
    (covered c i arg2 harg2 arg3 harg3 arg4 harg4 arg5 harg5 arg6 harg6 hc0 x g y)

/-- What the loop leaves in the scratch: the normalised rows. -/
theorem scratch_eq (hc0 : cond0_0 i) (x : Vec Ideal S1024x2048 .f32) (g : Vec Ideal S1x2048 .f32) (w : Vec Ideal S2048x1024 .bf16) :
    sout0_A_0 c i arg2 harg2 arg3 harg3 arg4 harg4 arg5 harg5 arg6 harg6 hc0 x g w = rows x g := by
  unfold sout0_A_0
  rw [View.read_writes_eq_canon _ _ _ (scover0_A_0 c i arg2 harg2 arg3 harg3 arg4 harg4 arg5 harg5 arg6 harg6 hc0 x g w)]
  unfold kernelRun0_A
  dsimp only
  exact canon_rows c i arg2 harg2 arg3 harg3 arg4 harg4 arg5 harg5 arg6 harg6 hc0 x g

/-- The rows as the point that wrote them reads them back. -/
theorem readBack (hc0 : cond0_0 i) (x : Vec Ideal S1024x2048 .f32) (g : Vec Ideal S1x2048 .f32) :
    arg6.view.readCov (Val := Elt Ideal) (pb_k0_t1 (F := Ideal) Variants.none c none i arg2 harg2 arg3 harg3 arg4 harg4 arg5 harg5 arg6 harg6 hc0 (harg2.unread x) (harg3.unread g) k0_t1_loop.trips)
      (Rect.unit (s := S1024x2048) ![0, 0] S1024x2048.size inb_S1024x2048_S1024x2048_0_0).toLoadRect = rows x g := by
  show arg6.view.readAt (Elt Ideal) (Rect.unit (s := S1024x2048) ![0, 0] S1024x2048.size inb_S1024x2048_S1024x2048_0_0).toLoadRect (arg6.view.writes (Elt Ideal) arg6.view.junk _) = _
  rw [View.readAt_eq_ld, View.ld_unit_zero (S := S1024x2048) hz,
    View.read_writes_eq_canon _ _ _ (covered c i arg2 harg2 arg3 harg3 arg4 harg4 arg5 harg5 arg6 harg6 hc0 x g)]
  exact canon_rows c i arg2 harg2 arg3 harg3 arg4 harg4 arg5 harg5 arg6 harg6 hc0 x g

/-- The eight slabs of 128 columns a point writes. -/
def slabs (i : grid0.Coords) (s : Vec Ideal S1024x2048 .bf16) (w : Vec Ideal S2048x1024 .bf16) : List (View.Piece (Elt Ideal) S8x1024x128 .bf16) :=
  [⟨Rect.unit ![7, 0, 0] ![1, 1024, 128] inb_S8x1024x128_S1x1024x128_7_0_0, k0_pay4 (k0_pay6 i s w)⟩,
    ⟨Rect.unit ![6, 0, 0] ![1, 1024, 128] inb_S8x1024x128_S1x1024x128_6_0_0, k0_pay3 (k0_pay6 i s w)⟩,
    ⟨Rect.unit ![5, 0, 0] ![1, 1024, 128] inb_S8x1024x128_S1x1024x128_5_0_0, k0_pay2 (k0_pay6 i s w)⟩,
    ⟨Rect.unit ![4, 0, 0] ![1, 1024, 128] inb_S8x1024x128_S1x1024x128_4_0_0, k0_pay1 (k0_pay6 i s w)⟩,
    ⟨Rect.unit ![3, 0, 0] ![1, 1024, 128] inb_S8x1024x128_S1x1024x128_3_0_0, k0_pay10 i s w⟩,
    ⟨Rect.unit ![2, 0, 0] ![1, 1024, 128] inb_S8x1024x128_S1x1024x128_2_0_0, k0_pay9 i s w⟩,
    ⟨Rect.unit ![1, 0, 0] ![1, 1024, 128] inb_S8x1024x128_S1x1024x128_1_0_0, k0_pay8 i s w⟩,
    ⟨Rect.unit ![0, 0, 0] ![1, 1024, 128] inb_S8x1024x128_S1x1024x128_0_0_0, k0_pay7 i s w⟩]

set_option maxHeartbeats 2000000 in
/-- Together they hold the product with the weights. -/
theorem slabs_at (i : grid0.Coords) (s : Vec Ideal S1024x2048 .bf16) (w : Vec Ideal S2048x1024 .bf16) (h : Fin 8) (y : Fin 1024) (e : Fin 128) :
    View.canon (slabs i s w) (ix3 h y e) = prod s w y ⟨h.val * 128 + e.val, by omega⟩ := by
  unfold slabs
  canon_tiles z hh <;>
  · idx_vars z
    pointwise [k0_pay1, k0_pay2, k0_pay3, k0_pay4, k0_pay7, k0_pay8, k0_pay9, k0_pay10]
    refine (pay6_at _ _ _ _ _).trans (congrArg₂ (prod s w) (Fin.ext ?_) (Fin.ext ?_)) <;> (try dsimp only) <;> omega

/-- A point that normalises its rows leaves their product with its columns of the weights. -/
theorem outA_eq (hc0 : cond0_0 i) (x : Vec Ideal S1024x2048 .f32) (g : Vec Ideal S1x2048 .f32) (w : Vec Ideal S2048x1024 .bf16) :
    out0_A_3 c i arg2 harg2 arg3 harg3 arg4 harg4 arg5 harg5 arg6 harg6 hc0 x g w = View.canon (slabs i (rows x g) w) := by
  unfold out0_A_3
  rw [View.read_writes_eq_canon _ _ _ (cover0_A_3 c i arg2 harg2 arg3 harg3 arg4 harg4 arg5 harg5 arg6 harg6 hc0 x g w)]
  unfold kernelRun0_A
  dsimp only
  sl_unfold_words
  have hb := readBack c i arg2 harg2 arg3 harg3 arg4 harg4 arg5 harg5 arg6 harg6 hc0 x g
  have hw : View.readAt (Elt Ideal) arg4.view (Rect.unit (s := S2048x1024) ![0, 0] S2048x1024.size inb_S2048x1024_S2048x1024_0_0).toLoadRect (harg4.unread w) = w := by
    rw [View.readAt_eq_ld, harg4.read_unread, View.ld_unit_zero (S := S2048x1024) hz]
  exact congrArg₂ (fun s w => View.canon (slabs i s w)) hb hw

/-- So does the next point, from the rows the scratch still holds. -/
theorem outB_eq (hc0 : ¬cond0_0 i) (x : Vec Ideal S1024x2048 .f32) (g : Vec Ideal S1x2048 .f32) (w : Vec Ideal S2048x1024 .bf16) (s : Vec Ideal S1024x2048 .bf16) :
    out0_B_3 c i arg2 harg2 arg3 harg3 arg4 harg4 arg5 harg5 arg6 harg6 hc0 x g w s = View.canon (slabs i s w) := by
  unfold out0_B_3
  rw [View.read_writes_eq_canon _ _ _ (cover0_B_3 c i arg2 harg2 arg3 harg3 arg4 harg4 arg5 harg5 arg6 harg6 hc0 x g w s)]
  unfold kernelRun0_B
  dsimp only
  sl_unfold_words
  simp only [View.readAt_eq_ld, harg4.read_unread, harg6.read_unread, View.ld_unit_zero (S := S2048x1024) hz, View.ld_unit_zero (S := S1024x2048) hz]
  rfl

end Body

variable (m : (ℓ : Loc nD τ sig) → Buf (Elt Ideal) ℓ) (c : Dev nD)

theorem x_at (R : Fin 16384) (k : Fin 2048) :
    V m c main_v0 (ix2 R k) = m ((c : Thread nD τ).loc main_arg0) (ix3 ⟨R.val / 2048, by omega⟩ ⟨R.val % 2048, by omega⟩ k) := by
  unfold V
  after_reads_at

theorem g_at (k : Fin 2048) : V m c main_v1 (ix2 0 k) = m ((c : Thread nD τ).loc main_arg1) (ix1 k) := by
  unfold V
  after_reads_at

theorem w_at (k d : Fin 2048) : V m c main_v2 (ix2 k d) = m ((c : Thread nD τ).loc main_arg2) (ix2 k d) := by
  unfold V
  after_reads_at

theorem idx : ∀ t : Fin cfg0.N, win0_0.index t = ![(grid0.coords t 0).val, 0] ∧ win0_1.index t = ![0, 0]
    ∧ win0_2.index t = ![0, (grid0.coords t 1).val] ∧ win0_3.index t = ![(grid0.coords t 1).val, (grid0.coords t 0).val, 0] :=
  (by decide +kernel : ∀ t : Fin grid0.N, _)

/-- The point before one that does not normalise is the first of the same row tile. -/
theorem before : ∀ t : Fin cfg0.N, t.val % 2 ≠ 0 → ∀ h : t.val - 1 < cfg0.N,
    (t.val - 1) % 2 = 0 ∧ (grid0.coords ⟨t.val - 1, h⟩ 0).val = (grid0.coords t 0).val :=
  (by decide +kernel : ∀ t : Fin grid0.N, t.val % 2 ≠ 0 → ∀ h : t.val - 1 < grid0.N,
    (t.val - 1) % 2 = 0 ∧ (grid0.coords ⟨t.val - 1, h⟩ 0).val = (grid0.coords t 0).val)

/-- The array the kernel leaves: the reference's result on the same arguments. -/
def goal : FVec Ideal S16x16384x128 .bf16 :=
  Cert.Reference4Ideal.Val.refO (m ((c : Thread nD τ).loc main_arg0)) (m ((c : Thread nD τ).loc main_arg1)) (m ((c : Thread nD τ).loc main_arg2))

/-- Entry `k` of the normalised row `R`. -/
def nrmRow (R : Fin 16384) (k : Fin 2048) : EReal :=
  nrm (fun d => m ((c : Thread nD τ).loc main_arg0) (ix3 ⟨R.val / 2048, by omega⟩ ⟨R.val % 2048, by omega⟩ d))
    (fun d => m ((c : Thread nD τ).loc main_arg1) (ix1 d)) k

theorem rows_at (t : Fin cfg0.N) (i : Fin 16) (hi : (grid0.coords t 0).val = i.val) (y : Fin 1024) (k : Fin 2048) :
    rows (iblk m c 0 t) (iblk m c 1 t) (ix2 y k) = nrmRow m c ⟨1024 * i.val + y.val, by omega⟩ k := by
  have hx : ∀ e : Fin 2048, iblk m c 0 t (ix2 y e) = V m c main_v0 (ix2 ⟨1024 * i.val + y.val, by omega⟩ e) := fun e => by
    blk_ext [iblk, idx t]
  have hg : ∀ e : Fin 2048, iblk m c 1 t (ix2 0 e) = V m c main_v1 (ix2 0 e) := fun e => by
    blk_ext [iblk, idx t]
  exact congrArg₂ (fun u v => nrm u v k) (funext fun e => (hx e).trans (x_at m c _ _)) (funext fun e => (hg e).trans (g_at m c _))

/-- What the scratch holds after a point that normalises its rows. -/
theorem scratchAt (n : ℕ) (hn : n < cfg0.N) (h0 : n % 2 = 0) :
    (outsAt0 m c n hn).2 = rows (iblk m c 0 ⟨n, hn⟩) (iblk m c 1 ⟨n, hn⟩) := by
  have h := outsAt0_A m c ⟨n, hn⟩ h0
  dsimp only at h
  rw [h, scratch_eq]

/-- What a point leaves, whichever of the two kinds it is. -/
theorem leaves (t : Fin cfg0.N) (i : Fin 16) (hi : (grid0.coords t 0).val = i.val) :
    ∃ s : Vec Ideal S1024x2048 .bf16, (∀ y k, s (ix2 y k) = nrmRow m c ⟨1024 * i.val + y.val, by omega⟩ k)
      ∧ (outsAt0 m c t.val t.isLt).1 = View.canon (slabs (grid0.coords t) s (iblk m c 2 t)) := by
  by_cases h0 : t.val % 2 = 0
  · refine ⟨rows (iblk m c 0 t) (iblk m c 1 t), rows_at m c t i hi, ?_⟩
    rw [outsAt0_A m c t h0, outA_eq]
  · have hl : t.val - 1 < cfg0.N := Nat.lt_of_le_of_lt (Nat.sub_le _ _) t.isLt
    obtain ⟨hb, hc⟩ := before t h0 hl
    refine ⟨(outsAt0 m c (t.val - 1) hl).2, fun y k => ?_, ?_⟩
    · rw [scratchAt m c _ hl hb]
      exact rows_at m c ⟨t.val - 1, hl⟩ i (hc.trans hi) y k
    · rw [outsAt0_B m c t h0, outB_eq]

/-- What the point in row `i` and column `j` of the grid writes. -/
theorem point (t : Fin cfg0.N) (i : Fin 16) (j : Fin 2) (hi : (grid0.coords t 0).val = i.val) (hj : (grid0.coords t 1).val = j.val)
    (h : Fin 8) (y : Fin 1024) (e : Fin 128) :
    (outsAt0 m c t.val t.isLt).1 (ix3 h y e) = goal m c (ix3 ⟨8 * j.val + h.val, by omega⟩ ⟨1024 * i.val + y.val, by omega⟩ e) := by
  obtain ⟨s, hs, ho⟩ := leaves m c t i hi
  have hw : ∀ k : Fin 2048, iblk m c 2 t (ix2 k ⟨h.val * 128 + e.val, by omega⟩) = V m c main_v2 (ix2 k ⟨(8 * j.val + h.val) * 128 + e.val, by omega⟩) := fun k => by
    blk_ext [iblk, idx t]
  refine (congrFun ho _).trans ((slabs_at _ _ _ h y e).trans (Eq.trans ?_ (Cert.Reference4Ideal.Val.O_at _ _ _ _ _ _).symm))
  refine congrArg (fun a : EReal => a * Ideal.ofBits .f32 0x3DB504F3#32) (Finset.sum_congr rfl fun k _ => ?_)
  exact congrArg₂ (fun a b : EReal => a * b) (hs y k) ((hw k).trans (w_at m c _ _))

theorem array_eq : (dats m 0 c).arrAt 3 cfg0.N = goal m c := by
  refine (dats m 0 c).arrAt_eq_of_covers 3 _ (by decide +kernel) fun t hf y => ?_
  have h := after0_3 m c t
  blk_simp
  rw [h]
  have hi := (grid0.coords t 0).isLt
  have hj := (grid0.coords t 1).isLt
  change _ < 16 at hi
  change _ < 2 at hj
  idx_vars y
  refine (point m c t ⟨_, hi⟩ ⟨_, hj⟩ rfl rfl _ _ _).trans ?_
  refine congrArg _ ?_
  blk_ext [idx t]

end Cert.Kernel4Ideal.Val
end
-- ==== Proof.QueriesClaims.lean ====
/- The claims about the queries of the forgetting attention. -/
module

public import proofs.«01_k».proof.Defs
public import proofs.«01_k».proof.Proof.Queries
public import proofs.«01_k».proof.Proof.Gen.Kernel4
public import proofs.«01_k».proof.Proof.Gen.Kernel4.Frame
public import proofs.«01_k».proof.Proof.Gen.Kernel4Ideal.Frame
public import proofs.«01_k».proof.Proof.Gen.Reference4Ideal.Run

@[expose] public section
noncomputable section

namespace Cert.Proof.QueriesClaims
open Idealize.ShloMosaic Idealize.SL.Sem

theorem kernel : Cert.quiescent_Kernel4 := fun m ρ _ => Cert.Kernel4.Gen.frame m ρ

theorem kernelIdeal : Cert.quiescent_Kernel4Ideal := fun m ρ _ => Cert.Kernel4Ideal.Gen.frame m ρ

theorem referenceIdeal : Cert.quiescent_Reference4Ideal := fun m ρ _ =>
  (θ_run _ _ _).mono (fun r h => ⟨fun c => (h c).2, sem_eq_zero_of_no_sems (by decide) r.2⟩) (Cert.Reference4Ideal.Value.run m ρ)

theorem preserves : Cert.preserves_Kernel4_Kernel4Ideal := trivial

/-- The kernel's result is the reference's at the same arguments. -/
theorem algebraic : Cert.algebraic_Kernel4Ideal_Reference4Ideal := by
  intro m g m' g' _ ha
  refine ⟨fun c => Cert.Kernel4Ideal.Val.goal m c, ?_, ?_⟩
  · exact (θ_run _ _ _).mono (fun r h c => ⟨(h c).1.trans (Cert.Kernel4Ideal.Val.array_eq m c), (h c).2⟩)
      (Cert.Kernel4Ideal.Value.run_blocks m g)
  · refine (θ_run _ _ _).mono (fun r h c => ⟨(h c).1.trans ?_, (h c).2⟩) (Cert.Reference4Ideal.Value.run m' g')
    obtain ⟨h0, h1, h2⟩ := ha c
    rw [h0, h1, h2]
    rfl

end Cert.Proof.QueriesClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.FoxClaims
public import proofs.«01_k».proof.Proof.ExpertsClaims
public import proofs.«01_k».proof.Proof.ProjClaims
public import proofs.«01_k».proof.Proof.QueriesClaims
public import Idealize.ShloMosaic.Adequacy
public import Idealize.ShloMosaic.Init

@[expose] public section

noncomputable section

namespace Cert.Proof

open Idealize.ShloMosaic Idealize.SL.Sem Cert.Kernel

/-- The certificate's claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre_finite_scores.facts,
    FoxClaims.kernel, FoxClaims.kernelIdeal, @FoxClaims.kernelIdeal_pre Cert.Pre_finite_scores.facts, FoxClaims.referenceIdeal, @FoxClaims.referenceIdeal_pre Cert.Pre_finite_scores.facts,
    ExpertsClaims.kernel, ExpertsClaims.kernelIdeal, ExpertsClaims.referenceIdeal,
    ProjClaims.kernel, ProjClaims.kernelIdeal, ProjClaims.referenceIdeal,
    QueriesClaims.kernel, QueriesClaims.kernelIdeal, QueriesClaims.referenceIdeal,
    FoxClaims.preserves, @FoxClaims.algebraic Cert.Pre_finite_scores.facts, ExpertsClaims.preserves, ExpertsClaims.algebraic,
    ProjClaims.preserves, ProjClaims.algebraic, QueriesClaims.preserves, QueriesClaims.algebraic⟩

end Cert.Proof

end
